-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2048x64 : Shape := ⟨2, ![2048, 64]⟩
abbrev S51200x128 : Shape := ⟨2, ![51200, 128]⟩
abbrev S51200x10x128 : Shape := ⟨3, ![51200, 10, 128]⟩
abbrev S4x128x16 : Shape := ⟨3, ![4, 128, 16]⟩
abbrev S4x32 : Shape := ⟨2, ![4, 32]⟩
abbrev S1x64x32 : Shape := ⟨3, ![1, 64, 32]⟩
abbrev S1x64 : Shape := ⟨2, ![1, 64]⟩
abbrev S32x1 : Shape := ⟨2, ![32, 1]⟩
abbrev S1 : Shape := ⟨1, ![1]⟩
abbrev S4x16x51200 : Shape := ⟨3, ![4, 16, 51200]⟩
abbrev S4x51200x16 : Shape := ⟨3, ![4, 51200, 16]⟩
abbrev S4x16x51200x10 : Shape := ⟨4, ![4, 16, 51200, 10]⟩
abbrev S4x51200x10x16 : Shape := ⟨4, ![4, 51200, 10, 16]⟩
abbrev S4x16 : Shape := ⟨2, ![4, 16]⟩
abbrev S4x51200 : Shape := ⟨2, ![4, 51200]⟩
abbrev S4x51200x1 : Shape := ⟨3, ![4, 51200, 1]⟩
abbrev S4x51200x10 : Shape := ⟨3, ![4, 51200, 10]⟩
abbrev S_ : Shape := ⟨0, ![]⟩
abbrev S51200x4x16 : Shape := ⟨3, ![51200, 4, 16]⟩
abbrev S51200x64 : Shape := ⟨2, ![51200, 64]⟩
abbrev S2048x25x64 : Shape := ⟨3, ![2048, 25, 64]⟩
abbrev S1x32x2048 : Shape := ⟨3, ![1, 32, 2048]⟩
abbrev S1x2048x32 : Shape := ⟨3, ![1, 2048, 32]⟩
abbrev S1x32x2048x25 : Shape := ⟨4, ![1, 32, 2048, 25]⟩
abbrev S1x2048x25x32 : Shape := ⟨4, ![1, 2048, 25, 32]⟩
abbrev S1x32 : Shape := ⟨2, ![1, 32]⟩
abbrev S1x2048 : Shape := ⟨2, ![1, 2048]⟩
abbrev S1x2048x1 : Shape := ⟨3, ![1, 2048, 1]⟩
abbrev S1x2048x25 : Shape := ⟨3, ![1, 2048, 25]⟩

class Facts : Prop where
  transposes_S4x16x51200_S4x51200x16_0_2_1 : S4x16x51200.Transposes [0, 2, 1] S4x51200x16
  transposes_S4x16x51200x10_S4x51200x10x16_0_2_3_1 : S4x16x51200x10.Transposes [0, 2, 3, 1] S4x51200x10x16
  slices_S4x32_S4x16_0_0 : S4x32.Slices ![0, 0] S4x16
  bcast_S4x51200_S4x51200x1_0_1 : S4x51200.BroadcastsInDim S4x51200x1 (![0, 1] : Fin 2 → Fin S4x51200x1.rank)
  slices_S4x32_S4x16_0_16 : S4x32.Slices ![0, 16] S4x16
  bcast_S4x51200x1_S4x51200x10_0_1_2 : S4x51200x1.BroadcastsInDim S4x51200x10 (![0, 1, 2] : Fin 3 → Fin S4x51200x10.rank)
  bcast_S_S4x51200x10 : S_.BroadcastsInDim S4x51200x10 (![] : Fin 0 → Fin S4x51200x10.rank)
  reducesTo_S4x51200x10_S4x51200_d2 : S4x51200x10.ReducesTo [2] S4x51200
  h_S_ : 0 < S_.numel
  transposes_S4x51200x16_S51200x4x16_1_0_2 : S4x51200x16.Transposes [1, 0, 2] S51200x4x16
  shapeCasts_S51200x4x16_S51200x64 : S51200x4x16.ShapeCasts S51200x64
  bcast_S_S51200x64 : S_.BroadcastsInDim S51200x64 (![] : Fin 0 → Fin S51200x64.rank)
  shapeCasts_S51200x64_S2048x25x64 : S51200x64.ShapeCasts S2048x25x64
  transposes_S1x32x2048_S1x2048x32_0_2_1 : S1x32x2048.Transposes [0, 2, 1] S1x2048x32
  transposes_S1x32x2048x25_S1x2048x25x32_0_2_3_1 : S1x32x2048x25.Transposes [0, 2, 3, 1] S1x2048x25x32
  slices_S1x64_S1x32_0_0 : S1x64.Slices ![0, 0] S1x32
  bcast_S1x2048_S1x2048x1_0_1 : S1x2048.BroadcastsInDim S1x2048x1 (![0, 1] : Fin 2 → Fin S1x2048x1.rank)
  slices_S1x64_S1x32_0_32 : S1x64.Slices ![0, 32] S1x32
  bcast_S1x2048x1_S1x2048x25_0_1_2 : S1x2048x1.BroadcastsInDim S1x2048x25 (![0, 1, 2] : Fin 3 → Fin S1x2048x25.rank)
  bcast_S_S2048x64 : S_.BroadcastsInDim S2048x64 (![] : Fin 0 → Fin S2048x64.rank)
  reducesTo_S2048x64_S_d0_1 : S2048x64.ReducesTo [0, 1] S_
  bcast_S_S51200x128 : S_.BroadcastsInDim S51200x128 (![] : Fin 0 → Fin S51200x128.rank)
  reducesTo_S51200x128_S_d0_1 : S51200x128.ReducesTo [0, 1] S_
  bcast_S_S51200x10x128 : S_.BroadcastsInDim S51200x10x128 (![] : Fin 0 → Fin S51200x10x128.rank)
  reducesTo_S51200x10x128_S_d0_1_2 : S51200x10x128.ReducesTo [0, 1, 2] S_
  bcast_S_S4x128x16 : S_.BroadcastsInDim S4x128x16 (![] : Fin 0 → Fin S4x128x16.rank)
  reducesTo_S4x128x16_S_d0_1_2 : S4x128x16.ReducesTo [0, 1, 2] S_
  bcast_S_S4x32 : S_.BroadcastsInDim S4x32 (![] : Fin 0 → Fin S4x32.rank)
  reducesTo_S4x32_S_d0_1 : S4x32.ReducesTo [0, 1] S_
  bcast_S_S1x64x32 : S_.BroadcastsInDim S1x64x32 (![] : Fin 0 → Fin S1x64x32.rank)
  reducesTo_S1x64x32_S_d0_1_2 : S1x64x32.ReducesTo [0, 1, 2] S_
  bcast_S_S1x64 : S_.BroadcastsInDim S1x64 (![] : Fin 0 → Fin S1x64.rank)
  reducesTo_S1x64_S_d0_1 : S1x64.ReducesTo [0, 1] S_
  reducesTo_S4x51200x10_S_d0_1_2 : S4x51200x10.ReducesTo [0, 1, 2] S_
  bcast_S_S1x2048x25 : S_.BroadcastsInDim S1x2048x25 (![] : Fin 0 → Fin S1x2048x25.rank)
  reducesTo_S1x2048x25_S_d0_1_2 : S1x2048x25.ReducesTo [0, 1, 2] S_
  dot_S4x128x16_S51200x128_S4x16x51200_1_1_02_0_n_n_wf : DotDims.WF S4x128x16 S51200x128 S4x16x51200 [1] [1] [0, 2] [0] [] []
  dot_S4x128x16_S51200x10x128_S4x16x51200x10_1_2_02_01_n_n_wf : DotDims.WF S4x128x16 S51200x10x128 S4x16x51200x10 [1] [2] [0, 2] [0, 1] [] []
  dot_S4x51200x16_S4x16_S4x51200_2_1_1_n_0_0_wf : DotDims.WF S4x51200x16 S4x16 S4x51200 [2] [1] [1] [] [0] [0]
  dot_S4x51200x10x16_S4x16_S4x51200x10_3_1_12_n_0_0_wf : DotDims.WF S4x51200x10x16 S4x16 S4x51200x10 [3] [1] [1, 2] [] [0] [0]
  dot_S4x51200x10_S4x51200x10x16_S4x51200x16_2_2_n_3_01_01_wf : DotDims.WF S4x51200x10 S4x51200x10x16 S4x51200x16 [2] [2] [] [3] [0, 1] [0, 1]
  dot_S1x64x32_S2048x64_S1x32x2048_1_1_02_0_n_n_wf : DotDims.WF S1x64x32 S2048x64 S1x32x2048 [1] [1] [0, 2] [0] [] []
  dot_S1x64x32_S2048x25x64_S1x32x2048x25_1_2_02_01_n_n_wf : DotDims.WF S1x64x32 S2048x25x64 S1x32x2048x25 [1] [2] [0, 2] [0, 1] [] []
  dot_S1x2048x32_S1x32_S1x2048_2_1_1_n_0_0_wf : DotDims.WF S1x2048x32 S1x32 S1x2048 [2] [1] [1] [] [0] [0]
  dot_S1x2048x25x32_S1x32_S1x2048x25_3_1_12_n_0_0_wf : DotDims.WF S1x2048x25x32 S1x32 S1x2048x25 [3] [1] [1, 2] [] [0] [0]

variable [Facts]

def dot_S4x128x16_S51200x128_S4x16x51200_1_1_02_0_n_n : DotDims S4x128x16 S51200x128 S4x16x51200 where
  lhsContracting := [1]
  rhsContracting := [1]
  lhsNonContracting := [0, 2]
  rhsNonContracting := [0]
  lhsBatch := []
  rhsBatch := []
  wf := dot_S4x128x16_S51200x128_S4x16x51200_1_1_02_0_n_n_wf
def dot_S4x128x16_S51200x10x128_S4x16x51200x10_1_2_02_01_n_n : DotDims S4x128x16 S51200x10x128 S4x16x51200x10 where
  lhsContracting := [1]
  rhsContracting := [2]
  lhsNonContracting := [0, 2]
  rhsNonContracting := [0, 1]
  lhsBatch := []
  rhsBatch := []
  wf := dot_S4x128x16_S51200x10x128_S4x16x51200x10_1_2_02_01_n_n_wf
def dot_S4x51200x16_S4x16_S4x51200_2_1_1_n_0_0 : DotDims S4x51200x16 S4x16 S4x51200 where
  lhsContracting := [2]
  rhsContracting := [1]
  lhsNonContracting := [1]
  rhsNonContracting := []
  lhsBatch := [0]
  rhsBatch := [0]
  wf := dot_S4x51200x16_S4x16_S4x51200_2_1_1_n_0_0_wf
def dot_S4x51200x10x16_S4x16_S4x51200x10_3_1_12_n_0_0 : DotDims S4x51200x10x16 S4x16 S4x51200x10 where
  lhsContracting := [3]
  rhsContracting := [1]
  lhsNonContracting := [1, 2]
  rhsNonContracting := []
  lhsBatch := [0]
  rhsBatch := [0]
  wf := dot_S4x51200x10x16_S4x16_S4x51200x10_3_1_12_n_0_0_wf
def dot_S4x51200x10_S4x51200x10x16_S4x51200x16_2_2_n_3_01_01 : DotDims S4x51200x10 S4x51200x10x16 S4x51200x16 where
  lhsContracting := [2]
  rhsContracting := [2]
  lhsNonContracting := []
  rhsNonContracting := [3]
  lhsBatch := [0, 1]
  rhsBatch := [0, 1]
  wf := dot_S4x51200x10_S4x51200x10x16_S4x51200x16_2_2_n_3_01_01_wf
def dot_S1x64x32_S2048x64_S1x32x2048_1_1_02_0_n_n : DotDims S1x64x32 S2048x64 S1x32x2048 where
  lhsContracting := [1]
  rhsContracting := [1]
  lhsNonContracting := [0, 2]
  rhsNonContracting := [0]
  lhsBatch := []
  rhsBatch := []
  wf := dot_S1x64x32_S2048x64_S1x32x2048_1_1_02_0_n_n_wf
def dot_S1x64x32_S2048x25x64_S1x32x2048x25_1_2_02_01_n_n : DotDims S1x64x32 S2048x25x64 S1x32x2048x25 where
  lhsContracting := [1]
  rhsContracting := [2]
  lhsNonContracting := [0, 2]
  rhsNonContracting := [0, 1]
  lhsBatch := []
  rhsBatch := []
  wf := dot_S1x64x32_S2048x25x64_S1x32x2048x25_1_2_02_01_n_n_wf
def dot_S1x2048x32_S1x32_S1x2048_2_1_1_n_0_0 : DotDims S1x2048x32 S1x32 S1x2048 where
  lhsContracting := [2]
  rhsContracting := [1]
  lhsNonContracting := [1]
  rhsNonContracting := []
  lhsBatch := [0]
  rhsBatch := [0]
  wf := dot_S1x2048x32_S1x32_S1x2048_2_1_1_n_0_0_wf
def dot_S1x2048x25x32_S1x32_S1x2048x25_3_1_12_n_0_0 : DotDims S1x2048x25x32 S1x32 S1x2048x25 where
  lhsContracting := [3]
  rhsContracting := [1]
  lhsNonContracting := [1, 2]
  rhsNonContracting := []
  lhsBatch := [0]
  rhsBatch := [0]
  wf := dot_S1x2048x25x32_S1x32_S1x2048x25_3_1_12_n_0_0_wf
def fn_part4 {F : FTy → Type} [FloatOps F] (main_v39 : FVec F S1x2048x25 .f32) (main_v73 : IVec S_ 1) (main_v75 : IVec S4x51200x10 1) (main_c_17 : IVec S_ 1) : IVec S_ 1 :=
  let main_v76 : IVec S_ 1 := (fun x v => Host.reduce IntOp.andi x v reducesTo_S4x51200x10_S_d0_1_2 h_S_) main_v75 main_c_17
  let main_cst_18 : FVec F S_ .f32 := constant S_ .f32 0x42700000#32
  let main_v77 : FVec F S1x2048x25 .f32 := broadcastInDim S1x2048x25 ![] bcast_S_S1x2048x25 main_cst_18
  let main_v78 : IVec S1x2048x25 1 := cmpf .ole main_v39 main_v77
  let main_c_19 : IVec S_ 1 := constantI S_ 1 1#1
  let main_v79 : IVec S_ 1 := (fun x v => Host.reduce IntOp.andi x v reducesTo_S1x2048x25_S_d0_1_2 h_S_) main_v78 main_c_19
  let main_v80 : IVec S_ 1 := andi main_v76 main_v79
  let main_v81 : IVec S_ 1 := andi main_v73 main_v80
  main_v81

def fn_part3 {F : FTy → Type} [FloatOps F] (main_arg5 : FVec F S1x64x32 .f32) (main_arg6 : FVec F S1x64 .f32) (main_v10 : FVec F S4x51200x10 .f32) (main_v39 : FVec F S1x2048x25 .f32) (main_v43 : IVec S_ 1) (main_v47 : IVec S_ 1) (main_v51 : IVec S_ 1) (main_v55 : IVec S_ 1) (main_v58 : IVec S4x32 1) : IVec S_ 1 :=
  let main_c_11 : IVec S_ 1 := constantI S_ 1 1#1
  let main_v59 : IVec S_ 1 := (fun x v => Host.reduce IntOp.andi x v reducesTo_S4x32_S_d0_1 h_S_) main_v58 main_c_11
  let main_v60 : FVec F S1x64x32 .f32 := Host.absf main_arg5
  let main_cst_12 : FVec F S_ .f32 := constant S_ .f32 0x7F800000#32
  let main_v61 : FVec F S1x64x32 .f32 := broadcastInDim S1x64x32 ![] bcast_S_S1x64x32 main_cst_12
  let main_v62 : IVec S1x64x32 1 := cmpf .olt main_v60 main_v61
  let main_c_13 : IVec S_ 1 := constantI S_ 1 1#1
  let main_v63 : IVec S_ 1 := (fun x v => Host.reduce IntOp.andi x v reducesTo_S1x64x32_S_d0_1_2 h_S_) main_v62 main_c_13
  let main_v64 : FVec F S1x64 .f32 := Host.absf main_arg6
  let main_cst_14 : FVec F S_ .f32 := constant S_ .f32 0x7F800000#32
  let main_v65 : FVec F S1x64 .f32 := broadcastInDim S1x64 ![] bcast_S_S1x64 main_cst_14
  let main_v66 : IVec S1x64 1 := cmpf .olt main_v64 main_v65
  let main_c_15 : IVec S_ 1 := constantI S_ 1 1#1
  let main_v67 : IVec S_ 1 := (fun x v => Host.reduce IntOp.andi x v reducesTo_S1x64_S_d0_1 h_S_) main_v66 main_c_15
  let main_v68 : IVec S_ 1 := andi main_v43 main_v47
  let main_v69 : IVec S_ 1 := andi main_v68 main_v51
  let main_v70 : IVec S_ 1 := andi main_v69 main_v55
  let main_v71 : IVec S_ 1 := andi main_v70 main_v59
  let main_v72 : IVec S_ 1 := andi main_v71 main_v63
  let main_v73 : IVec S_ 1 := andi main_v72 main_v67
  let main_cst_16 : FVec F S_ .f32 := constant S_ .f32 0x42700000#32
  let main_v74 : FVec F S4x51200x10 .f32 := broadcastInDim S4x51200x10 ![] bcast_S_S4x51200x10 main_cst_16
  let main_v75 : IVec S4x51200x10 1 := cmpf .ole main_v10 main_v74
  let main_c_17 : IVec S_ 1 := constantI S_ 1 1#1
  fn_part4 (F := F) main_v39 main_v73 main_v75 main_c_17

def fn_part2 {F : FTy → Type} [FloatOps F] (main_arg1 : FVec F S51200x128 .f32) (main_arg2 : FVec F S51200x10x128 .f32) (main_arg3 : FVec F S4x128x16 .f32) (main_arg4 : FVec F S4x32 .f32) (main_arg5 : FVec F S1x64x32 .f32) (main_arg6 : FVec F S1x64 .f32) (main_v10 : FVec F S4x51200x10 .f32) (main_v39 : FVec F S1x2048x25 .f32) (main_v42 : IVec S2048x64 1) : IVec S_ 1 :=
  let main_c : IVec S_ 1 := constantI S_ 1 1#1
  let main_v43 : IVec S_ 1 := (fun x v => Host.reduce IntOp.andi x v reducesTo_S2048x64_S_d0_1 h_S_) main_v42 main_c
  let main_v44 : FVec F S51200x128 .f32 := Host.absf main_arg1
  let main_cst_4 : FVec F S_ .f32 := constant S_ .f32 0x7F800000#32
  let main_v45 : FVec F S51200x128 .f32 := broadcastInDim S51200x128 ![] bcast_S_S51200x128 main_cst_4
  let main_v46 : IVec S51200x128 1 := cmpf .olt main_v44 main_v45
  let main_c_5 : IVec S_ 1 := constantI S_ 1 1#1
  let main_v47 : IVec S_ 1 := (fun x v => Host.reduce IntOp.andi x v reducesTo_S51200x128_S_d0_1 h_S_) main_v46 main_c_5
  let main_v48 : FVec F S51200x10x128 .f32 := Host.absf main_arg2
  let main_cst_6 : FVec F S_ .f32 := constant S_ .f32 0x7F800000#32
  let main_v49 : FVec F S51200x10x128 .f32 := broadcastInDim S51200x10x128 ![] bcast_S_S51200x10x128 main_cst_6
  let main_v50 : IVec S51200x10x128 1 := cmpf .olt main_v48 main_v49
  let main_c_7 : IVec S_ 1 := constantI S_ 1 1#1
  let main_v51 : IVec S_ 1 := (fun x v => Host.reduce IntOp.andi x v reducesTo_S51200x10x128_S_d0_1_2 h_S_) main_v50 main_c_7
  let main_v52 : FVec F S4x128x16 .f32 := Host.absf main_arg3
  let main_cst_8 : FVec F S_ .f32 := constant S_ .f32 0x7F800000#32
  let main_v53 : FVec F S4x128x16 .f32 := broadcastInDim S4x128x16 ![] bcast_S_S4x128x16 main_cst_8
  let main_v54 : IVec S4x128x16 1 := cmpf .olt main_v52 main_v53
  let main_c_9 : IVec S_ 1 := constantI S_ 1 1#1
  let main_v55 : IVec S_ 1 := (fun x v => Host.reduce IntOp.andi x v reducesTo_S4x128x16_S_d0_1_2 h_S_) main_v54 main_c_9
  let main_v56 : FVec F S4x32 .f32 := Host.absf main_arg4
  let main_cst_10 : FVec F S_ .f32 := constant S_ .f32 0x7F800000#32
  let main_v57 : FVec F S4x32 .f32 := broadcastInDim S4x32 ![] bcast_S_S4x32 main_cst_10
  let main_v58 : IVec S4x32 1 := cmpf .olt main_v56 main_v57
  fn_part3 (F := F) main_arg5 main_arg6 main_v10 main_v39 main_v43 main_v47 main_v51 main_v55 main_v58

def fn_part1 {F : FTy → Type} [FloatOps F] (main_arg0 : FVec F S2048x64 .f32) (main_arg1 : FVec F S51200x128 .f32) (main_arg2 : FVec F S51200x10x128 .f32) (main_arg3 : FVec F S4x128x16 .f32) (main_arg4 : FVec F S4x32 .f32) (main_arg5 : FVec F S1x64x32 .f32) (main_arg6 : FVec F S1x64 .f32) (main_v10 : FVec F S4x51200x10 .f32) (main_v21 : FVec F S51200x64 .f32) : IVec S_ 1 :=
  let main_cst_1 : FVec F S_ .f32 := constant S_ .f32 0x00000000#32
  let main_v22 : FVec F S51200x64 .f32 := broadcastInDim S51200x64 ![] bcast_S_S51200x64 main_cst_1
  let main_v23 : FVec F S51200x64 .f32 := minimumf main_v21 main_v22
  let main_v24 : FVec F S51200x64 .f32 := Host.exp main_v23
  let main_cst_2 : FVec F S_ .f32 := constant S_ .f32 0x3F800000#32
  let main_v25 : FVec F S51200x64 .f32 := broadcastInDim S51200x64 ![] bcast_S_S51200x64 main_cst_2
  let main_v26 : FVec F S51200x64 .f32 := subf main_v24 main_v25
  let main_v27 : FVec F S51200x64 .f32 := maximumf main_v21 main_v26
  let main_v28 : FVec F S2048x25x64 .f32 := shapeCast S2048x25x64 main_v27 shapeCasts_S51200x64_S2048x25x64
  let main_v29 : FVec F S1x32x2048 .f32 := (fun l r => Host.dotGeneral dot_S1x64x32_S2048x64_S1x32x2048_1_1_02_0_n_n none l r) main_arg5 main_arg0
  let main_v30 : FVec F S1x2048x32 .f32 := (transpose S1x2048x32 [0, 2, 1] · transposes_S1x32x2048_S1x2048x32_0_2_1) main_v29
  let main_v31 : FVec F S1x32x2048x25 .f32 := (fun l r => Host.dotGeneral dot_S1x64x32_S2048x25x64_S1x32x2048x25_1_2_02_01_n_n none l r) main_arg5 main_v28
  let main_v32 : FVec F S1x2048x25x32 .f32 := (transpose S1x2048x25x32 [0, 2, 3, 1] · transposes_S1x32x2048x25_S1x2048x25x32_0_2_3_1) main_v31
  let main_v33 : FVec F S1x32 .f32 := (extractStridedSlice S1x32 ![0, 0] · slices_S1x64_S1x32_0_0) main_arg6
  let main_v34 : FVec F S1x2048 .f32 := (fun l r => Host.dotGeneral dot_S1x2048x32_S1x32_S1x2048_2_1_1_n_0_0 none l r) main_v30 main_v33
  let main_v35 : FVec F S1x2048x1 .f32 := broadcastInDim S1x2048x1 ![0, 1] bcast_S1x2048_S1x2048x1_0_1 main_v34
  let main_v36 : FVec F S1x32 .f32 := (extractStridedSlice S1x32 ![0, 32] · slices_S1x64_S1x32_0_32) main_arg6
  let main_v37 : FVec F S1x2048x25 .f32 := (fun l r => Host.dotGeneral dot_S1x2048x25x32_S1x32_S1x2048x25_3_1_12_n_0_0 none l r) main_v32 main_v36
  let main_v38 : FVec F S1x2048x25 .f32 := broadcastInDim S1x2048x25 ![0, 1, 2] bcast_S1x2048x1_S1x2048x25_0_1_2 main_v35
  let main_v39 : FVec F S1x2048x25 .f32 := addf main_v38 main_v37
  let main_v40 : FVec F S2048x64 .f32 := Host.absf main_arg0
  let main_cst_3 : FVec F S_ .f32 := constant S_ .f32 0x7F800000#32
  let main_v41 : FVec F S2048x64 .f32 := broadcastInDim S2048x64 ![] bcast_S_S2048x64 main_cst_3
  let main_v42 : IVec S2048x64 1 := cmpf .olt main_v40 main_v41
  fn_part2 (F := F) main_arg1 main_arg2 main_arg3 main_arg4 main_arg5 main_arg6 main_v10 main_v39 main_v42

def fn {F : FTy → Type} [FloatOps F] (main_arg0 : FVec F S2048x64 .f32) (main_arg1 : FVec F S51200x128 .f32) (main_arg2 : FVec F S51200x10x128 .f32) (main_arg3 : FVec F S4x128x16 .f32) (main_arg4 : FVec F S4x32 .f32) (main_arg5 : FVec F S1x64x32 .f32) (main_arg6 : FVec F S1x64 .f32) (main_arg7 : FVec F S32x1 .f32) (main_arg8 : FVec F S1 .f32) : IVec S_ 1 :=
  let main_v0 : FVec F S4x16x51200 .f32 := (fun l r => Host.dotGeneral dot_S4x128x16_S51200x128_S4x16x51200_1_1_02_0_n_n none l r) main_arg3 main_arg1
  let main_v1 : FVec F S4x51200x16 .f32 := (transpose S4x51200x16 [0, 2, 1] · transposes_S4x16x51200_S4x51200x16_0_2_1) main_v0
  let main_v2 : FVec F S4x16x51200x10 .f32 := (fun l r => Host.dotGeneral dot_S4x128x16_S51200x10x128_S4x16x51200x10_1_2_02_01_n_n none l r) main_arg3 main_arg2
  let main_v3 : FVec F S4x51200x10x16 .f32 := (transpose S4x51200x10x16 [0, 2, 3, 1] · transposes_S4x16x51200x10_S4x51200x10x16_0_2_3_1) main_v2
  let main_v4 : FVec F S4x16 .f32 := (extractStridedSlice S4x16 ![0, 0] · slices_S4x32_S4x16_0_0) main_arg4
  let main_v5 : FVec F S4x51200 .f32 := (fun l r => Host.dotGeneral dot_S4x51200x16_S4x16_S4x51200_2_1_1_n_0_0 none l r) main_v1 main_v4
  let main_v6 : FVec F S4x51200x1 .f32 := broadcastInDim S4x51200x1 ![0, 1] bcast_S4x51200_S4x51200x1_0_1 main_v5
  let main_v7 : FVec F S4x16 .f32 := (extractStridedSlice S4x16 ![0, 16] · slices_S4x32_S4x16_0_16) main_arg4
  let main_v8 : FVec F S4x51200x10 .f32 := (fun l r => Host.dotGeneral dot_S4x51200x10x16_S4x16_S4x51200x10_3_1_12_n_0_0 none l r) main_v3 main_v7
  let main_v9 : FVec F S4x51200x10 .f32 := broadcastInDim S4x51200x10 ![0, 1, 2] bcast_S4x51200x1_S4x51200x10_0_1_2 main_v6
  let main_v10 : FVec F S4x51200x10 .f32 := addf main_v9 main_v8
  let main_cst : FVec F S_ .f32 := constant S_ .f32 0x3E4CCCCD#32
  let main_v11 : FVec F S4x51200x10 .f32 := broadcastInDim S4x51200x10 ![] bcast_S_S4x51200x10 main_cst
  let main_v12 : FVec F S4x51200x10 .f32 := mulf main_v11 main_v10
  let main_v13 : FVec F S4x51200x10 .f32 := maximumf main_v10 main_v12
  let main_v14 : FVec F S4x51200x10 .f32 := Host.exp main_v13
  let main_cst_0 : FVec F S_ .f32 := constant S_ .f32 0x00000000#32
  let main_v15 : FVec F S4x51200 .f32 := (fun x v => Host.reduceAdd x v reducesTo_S4x51200x10_S4x51200_d2 h_S_) main_v14 main_cst_0
  let main_v16 : FVec F S4x51200x1 .f32 := broadcastInDim S4x51200x1 ![0, 1] bcast_S4x51200_S4x51200x1_0_1 main_v15
  let main_v17 : FVec F S4x51200x10 .f32 := broadcastInDim S4x51200x10 ![0, 1, 2] bcast_S4x51200x1_S4x51200x10_0_1_2 main_v16
  let main_v18 : FVec F S4x51200x10 .f32 := Host.divf main_v14 main_v17
  let main_v19 : FVec F S4x51200x16 .f32 := (fun l r => Host.dotGeneral dot_S4x51200x10_S4x51200x10x16_S4x51200x16_2_2_n_3_01_01 none l r) main_v18 main_v3
  let main_v20 : FVec F S51200x4x16 .f32 := (transpose S51200x4x16 [1, 0, 2] · transposes_S4x51200x16_S51200x4x16_1_0_2) main_v19
  let main_v21 : FVec F S51200x64 .f32 := shapeCast S51200x64 main_v20 shapeCasts_S51200x4x16_S51200x64
  fn_part1 (F := F) main_arg0 main_arg1 main_arg2 main_arg3 main_arg4 main_arg5 main_arg6 main_v10 main_v21
-- ==== Kernel.lean ====
abbrev S2048x64 : Shape := ⟨2, ![2048, 64]⟩
abbrev S51200x128 : Shape := ⟨2, ![51200, 128]⟩
abbrev S51200x10x128 : Shape := ⟨3, ![51200, 10, 128]⟩
abbrev S4x128x16 : Shape := ⟨3, ![4, 128, 16]⟩
abbrev S4x32 : Shape := ⟨2, ![4, 32]⟩
abbrev S1x64x32 : Shape := ⟨3, ![1, 64, 32]⟩
abbrev S1x64 : Shape := ⟨2, ![1, 64]⟩
abbrev S32x1 : Shape := ⟨2, ![32, 1]⟩
abbrev S1 : Shape := ⟨1, ![1]⟩
abbrev S128x4x16 : Shape := ⟨3, ![128, 4, 16]⟩
abbrev S128x64 : Shape := ⟨2, ![128, 64]⟩
abbrev S4x16 : Shape := ⟨2, ![4, 16]⟩
abbrev S4x4 : Shape := ⟨2, ![4, 4]⟩
abbrev S_ : Shape := ⟨0, ![]⟩
abbrev S10x10 : Shape := ⟨2, ![10, 10]⟩
abbrev S4x128 : Shape := ⟨2, ![4, 128]⟩
abbrev S128x4 : Shape := ⟨2, ![128, 4]⟩
abbrev S128x4x10 : Shape := ⟨3, ![128, 4, 10]⟩
abbrev S128x40 : Shape := ⟨2, ![128, 40]⟩
abbrev S1x4x16x1x1 : Shape := ⟨5, ![1, 4, 16, 1, 1]⟩
abbrev S1x4x1x4x1 : Shape := ⟨5, ![1, 4, 1, 4, 1]⟩
abbrev S1x4x16x4x1 : Shape := ⟨5, ![1, 4, 16, 4, 1]⟩
abbrev S10x1x1x1x10 : Shape := ⟨5, ![10, 1, 1, 1, 10]⟩
abbrev S10x4x16x4x10 : Shape := ⟨5, ![10, 4, 16, 4, 10]⟩
abbrev S640x40 : Shape := ⟨2, ![640, 40]⟩
abbrev S4x10x4 : Shape := ⟨3, ![4, 10, 4]⟩
abbrev S40x4 : Shape := ⟨2, ![40, 4]⟩
abbrev S4x1x1x4x1 : Shape := ⟨5, ![4, 1, 1, 4, 1]⟩
abbrev S1x10x10x1x1 : Shape := ⟨5, ![1, 10, 10, 1, 1]⟩
abbrev S4x10x10x4x1 : Shape := ⟨5, ![4, 10, 10, 4, 1]⟩
abbrev S1x1x1x1x16 : Shape := ⟨5, ![1, 1, 1, 1, 16]⟩
abbrev S4x10x10x4x16 : Shape := ⟨5, ![4, 10, 10, 4, 16]⟩
abbrev S40x640 : Shape := ⟨2, ![40, 640]⟩
abbrev S4x4x16 : Shape := ⟨3, ![4, 4, 16]⟩
abbrev S4x64 : Shape := ⟨2, ![4, 64]⟩
abbrev S64x64 : Shape := ⟨2, ![64, 64]⟩
abbrev S1x64x1x64 : Shape := ⟨4, ![1, 64, 1, 64]⟩
abbrev S10x64x1x64 : Shape := ⟨4, ![10, 64, 1, 64]⟩
abbrev S640x64 : Shape := ⟨2, ![640, 64]⟩
abbrev S64x32 : Shape := ⟨2, ![64, 32]⟩
abbrev S1x32 : Shape := ⟨2, ![1, 32]⟩
abbrev S32 : Shape := ⟨1, ![32]⟩
abbrev S1x1 : Shape := ⟨2, ![1, 1]⟩
abbrev S2048x1 : Shape := ⟨2, ![2048, 1]⟩
abbrev S1600x128 : Shape := ⟨2, ![1600, 128]⟩
abbrev S64x1 : Shape := ⟨2, ![64, 1]⟩
abbrev S2x16000x128 : Shape := ⟨3, ![2, 16000, 128]⟩
abbrev S2x10 : Shape := ⟨2, ![2, 10]⟩
abbrev S1x1600x128 : Shape := ⟨3, ![1, 1600, 128]⟩
abbrev S1600x1x128 : Shape := ⟨3, ![1600, 1, 128]⟩
abbrev S1600x64 : Shape := ⟨2, ![1600, 64]⟩
abbrev S1600x640 : Shape := ⟨2, ![1600, 640]⟩
abbrev S1600x40 : Shape := ⟨2, ![1600, 40]⟩
abbrev S1600x4 : Shape := ⟨2, ![1600, 4]⟩
abbrev S1600x32 : Shape := ⟨2, ![1600, 32]⟩
abbrev S1600x1 : Shape := ⟨2, ![1600, 1]⟩
abbrev S64x1600 : Shape := ⟨2, ![64, 1600]⟩
abbrev S1600x25 : Shape := ⟨2, ![1600, 25]⟩
abbrev S64x25 : Shape := ⟨2, ![64, 25]⟩
abbrev S64 : Shape := ⟨1, ![64]⟩

abbrev nBuf : Space → Nat
  | .hbm => 75
  | .vmem => 19
  | .smem => 0
  | _ => 0

abbrev bufTy : (tb : Table) → Fin (tcTables nBuf tb) → BufTy
  | .hbm, ⟨0, _⟩ => ⟨S2048x64, .f32⟩
  | .hbm, ⟨1, _⟩ => ⟨S51200x128, .f32⟩
  | .hbm, ⟨2, _⟩ => ⟨S51200x10x128, .f32⟩
  | .hbm, ⟨3, _⟩ => ⟨S4x128x16, .f32⟩
  | .hbm, ⟨4, _⟩ => ⟨S4x32, .f32⟩
  | .hbm, ⟨5, _⟩ => ⟨S1x64x32, .f32⟩
  | .hbm, ⟨6, _⟩ => ⟨S1x64, .f32⟩
  | .hbm, ⟨7, _⟩ => ⟨S32x1, .f32⟩
  | .hbm, ⟨8, _⟩ => ⟨S1, .f32⟩
  | .hbm, ⟨9, _⟩ => ⟨S128x4x16, .f32⟩
  | .hbm, ⟨10, _⟩ => ⟨S128x64, .f32⟩
  | .hbm, ⟨11, _⟩ => ⟨S4x16, .f32⟩
  | .hbm, ⟨12, _⟩ => ⟨S4x16, .f32⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .f32⟩
  | .hbm, ⟨20, _⟩ => ⟨S10x10, .i32⟩
  | .hbm, ⟨21, _⟩ => ⟨S10x10, .i32⟩
  | .hbm, ⟨22, _⟩ => ⟨S_, .i32⟩
  | .hbm, ⟨23, _⟩ => ⟨S10x10, .i32⟩
  | .hbm, ⟨24, _⟩ => ⟨S10x10, .i32⟩
  | .hbm, ⟨25, _⟩ => ⟨S10x10, .i1⟩
  | .hbm, ⟨26, _⟩ => ⟨S10x10, .f32⟩
  | .hbm, ⟨27, _⟩ => ⟨S4x128, .f32⟩
  | .hbm, ⟨28, _⟩ => ⟨S128x4, .f32⟩
  | .hbm, ⟨29, _⟩ => ⟨S128x4x10, .f32⟩
  | .hbm, ⟨30, _⟩ => ⟨S128x40, .f32⟩
  | .hbm, ⟨31, _⟩ => ⟨S1x4x16x1x1, .f32⟩
  | .hbm, ⟨32, _⟩ => ⟨S1x4x1x4x1, .f32⟩
  | .hbm, ⟨33, _⟩ => ⟨S1x4x16x4x1, .f32⟩
  | .hbm, ⟨34, _⟩ => ⟨S1x4x16x4x1, .f32⟩
  | .hbm, ⟨35, _⟩ => ⟨S1x4x16x4x1, .f32⟩
  | .hbm, ⟨36, _⟩ => ⟨S10x1x1x1x10, .f32⟩
  | .hbm, ⟨37, _⟩ => ⟨S10x4x16x4x10, .f32⟩
  | .hbm, ⟨38, _⟩ => ⟨S10x4x16x4x10, .f32⟩
  | .hbm, ⟨39, _⟩ => ⟨S10x4x16x4x10, .f32⟩
  | .hbm, ⟨40, _⟩ => ⟨S640x40, .f32⟩
  | .hbm, ⟨41, _⟩ => ⟨S4x10x4, .f32⟩
  | .hbm, ⟨42, _⟩ => ⟨S40x4, .f32⟩
  | .hbm, ⟨43, _⟩ => ⟨S4x1x1x4x1, .f32⟩
  | .hbm, ⟨44, _⟩ => ⟨S1x10x10x1x1, .f32⟩
  | .hbm, ⟨45, _⟩ => ⟨S4x10x10x4x1, .f32⟩
  | .hbm, ⟨46, _⟩ => ⟨S4x10x10x4x1, .f32⟩
  | .hbm, ⟨47, _⟩ => ⟨S4x10x10x4x1, .f32⟩
  | .hbm, ⟨48, _⟩ => ⟨S_, .f32⟩
  | .hbm, ⟨49, _⟩ => ⟨S1x1x1x1x16, .f32⟩
  | .hbm, ⟨50, _⟩ => ⟨S4x10x10x4x16, .f32⟩
  | .hbm, ⟨51, _⟩ => ⟨S4x10x10x4x16, .f32⟩
  | .hbm, ⟨52, _⟩ => ⟨S4x10x10x4x16, .f32⟩
  | .hbm, ⟨53, _⟩ => ⟨S40x640, .f32⟩
  | .hbm, ⟨54, _⟩ => ⟨S4x4x16, .f32⟩
  | .hbm, ⟨55, _⟩ => ⟨S4x64, .f32⟩
  | .hbm, ⟨56, _⟩ => ⟨S64x64, .i32⟩
  | .hbm, ⟨57, _⟩ => ⟨S64x64, .i32⟩
  | .hbm, ⟨58, _⟩ => ⟨S_, .i32⟩
  | .hbm, ⟨59, _⟩ => ⟨S64x64, .i32⟩
  | .hbm, ⟨60, _⟩ => ⟨S64x64, .i32⟩
  | .hbm, ⟨61, _⟩ => ⟨S64x64, .i1⟩
  | .hbm, ⟨62, _⟩ => ⟨S64x64, .f32⟩
  | .hbm, ⟨63, _⟩ => ⟨S1x64x1x64, .f32⟩
  | .hbm, ⟨64, _⟩ => ⟨S10x64x1x64, .f32⟩
  | .hbm, ⟨65, _⟩ => ⟨S640x64, .f32⟩
  | .hbm, ⟨66, _⟩ => ⟨S64x32, .f32⟩
  | .hbm, ⟨67, _⟩ => ⟨S1x32, .f32⟩
  | .hbm, ⟨68, _⟩ => ⟨S32, .f32⟩
  | .hbm, ⟨69, _⟩ => ⟨S32x1, .f32⟩
  | .hbm, ⟨70, _⟩ => ⟨S1x32, .f32⟩
  | .hbm, ⟨71, _⟩ => ⟨S32, .f32⟩
  | .hbm, ⟨72, _⟩ => ⟨S32x1, .f32⟩
  | .hbm, ⟨73, _⟩ => ⟨S1x1, .f32⟩
  | .hbm, ⟨74, _⟩ => ⟨S2048x1, .f32⟩
  | .local _ .vmem, ⟨0, _⟩ => ⟨S64x64, .f32⟩
  | .local _ .vmem, ⟨1, _⟩ => ⟨S64x64, .f32⟩
  | .local _ .vmem, ⟨2, _⟩ => ⟨S1600x128, .f32⟩
  | .local _ .vmem, ⟨3, _⟩ => ⟨S1600x128, .f32⟩
  | .local _ .vmem, ⟨4, _⟩ => ⟨S128x64, .f32⟩
  | .local _ .vmem, ⟨5, _⟩ => ⟨S128x40, .f32⟩
  | .local _ .vmem, ⟨6, _⟩ => ⟨S640x40, .f32⟩
  | .local _ .vmem, ⟨7, _⟩ => ⟨S40x4, .f32⟩
  | .local _ .vmem, ⟨8, _⟩ => ⟨S40x640, .f32⟩
  | .local _ .vmem, ⟨9, _⟩ => ⟨S4x64, .f32⟩
  | .local _ .vmem, ⟨10, _⟩ => ⟨S640x64, .f32⟩
  | .local _ .vmem, ⟨11, _⟩ => ⟨S64x32, .f32⟩
  | .local _ .vmem, ⟨12, _⟩ => ⟨S32x1, .f32⟩
  | .local _ .vmem, ⟨13, _⟩ => ⟨S32x1, .f32⟩
  | .local _ .vmem, ⟨14, _⟩ => ⟨S32x1, .f32⟩
  | .local _ .vmem, ⟨15, _⟩ => ⟨S1x1, .f32⟩
  | .local _ .vmem, ⟨16, _⟩ => ⟨S64x1, .f32⟩
  | .local _ .vmem, ⟨17, _⟩ => ⟨S64x1, .f32⟩
  | .local _ .vmem, ⟨18, _⟩ => ⟨S2x16000x128, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_1 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c2_i32_106 : BitVec 32 := 2#32
  let c0_i32_107 : BitVec 32 := 0#32
  let v209 : BitVec 1 := Scalar.cmpi .eq c2_i32_106 c0_i32_107
  let c1_i32_108 : BitVec 32 := 1#32
  let v210 : BitVec 32 := Scalar.select v209 c1_i32_108 c2_i32_106
  let v211 : BitVec 32 := Scalar.remsi arg0 v210
  let c0_i32_110 : BitVec 32 := 0#32
  let v213 : BitVec 1 := Scalar.cmpi .slt v211 c0_i32_110
  let c0_i32_111 : BitVec 32 := 0#32
  let v214 : BitVec 1 := Scalar.cmpi .slt v210 c0_i32_111
  let v215 : BitVec 1 := Scalar.xori v213 v214
  let c0_i32_109 : BitVec 32 := 0#32
  let v212 : BitVec 1 := Scalar.cmpi .ne v211 c0_i32_109
  let v216 : BitVec 1 := Scalar.andi v215 v212
  let v217 : BitVec 32 := Scalar.addi v211 v210
  let v218 : BitVec 32 := Scalar.select v216 v217 v211
  let c0_i32_113 : BitVec 32 := 0#32
  ![v218.toNat, 0]
def k0_off2 (i : grid0.Coords) : Fin 3 → Nat :=
  let arg0 : BitVec 32 := BitVec.ofNat 32 (i 0).val
  let c2_i32_100 : BitVec 32 := 2#32
  let c0_i32_101 : BitVec 32 := 0#32
  let v199 : BitVec 1 := Scalar.cmpi .eq c2_i32_100 c0_i32_101
  let c1_i32_102 : BitVec 32 := 1#32
  let v200 : BitVec 32 := Scalar.select v199 c1_i32_102 c2_i32_100
  let v201 : BitVec 32 := Scalar.remsi arg0 v200
  let c0_i32_104 : BitVec 32 := 0#32
  let v203 : BitVec 1 := Scalar.cmpi .slt v201 c0_i32_104
  let c0_i32_105 : BitVec 32 := 0#32
  let v204 : BitVec 1 := Scalar.cmpi .slt v200 c0_i32_105
  let v205 : BitVec 1 := Scalar.xori v203 v204
  let c0_i32_103 : BitVec 32 := 0#32
  let v202 : BitVec 1 := Scalar.cmpi .ne v201 c0_i32_103
  let v206 : BitVec 1 := Scalar.andi v205 v202
  let v207 : BitVec 32 := Scalar.addi v201 v200
  let v208 : BitVec 32 := Scalar.select v206 v207 v201
  let c0_i32_114 : BitVec 32 := 0#32
  let c0_i32_115 : BitVec 32 := 0#32
  ![v208.toNat, 0, 0]
def k0_off3 (i : grid0.Coords) : Fin 3 → Nat :=
  let arg0 : BitVec 32 := BitVec.ofNat 32 (i 0).val
  let c1600_i32 : BitVec 32 := 1600#32
  let v198 : BitVec 32 := Scalar.muli arg0 c1600_i32
  let c0_i32_112 : BitVec 32 := 0#32
  let c0_i32_116 : BitVec 32 := 0#32
  ![v198.toNat, 0, 0]
def k0_off4 (i : grid0.Coords) : Fin 2 → Nat :=
  let arg0 : BitVec 32 := BitVec.ofNat 32 (i 0).val
  let c2_i32_124 : BitVec 32 := 2#32
  let c0_i32_125 : BitVec 32 := 0#32
  let v236 : BitVec 1 := Scalar.cmpi .eq c2_i32_124 c0_i32_125
  let c1_i32_126 : BitVec 32 := 1#32
  let v237 : BitVec 32 := Scalar.select v236 c1_i32_126 c2_i32_124
  let v238 : BitVec 32 := Scalar.remsi arg0 v237
  let c0_i32_128 : BitVec 32 := 0#32
  let v240 : BitVec 1 := Scalar.cmpi .slt v238 c0_i32_128
  let c0_i32_129 : BitVec 32 := 0#32
  let v241 : BitVec 1 := Scalar.cmpi .slt v237 c0_i32_129
  let v242 : BitVec 1 := Scalar.xori v240 v241
  let c0_i32_127 : BitVec 32 := 0#32
  let v239 : BitVec 1 := Scalar.cmpi .ne v238 c0_i32_127
  let v243 : BitVec 1 := Scalar.andi v242 v239
  let v244 : BitVec 32 := Scalar.addi v238 v237
  let v245 : BitVec 32 := Scalar.select v243 v244 v238
  let c1_i32_131 : BitVec 32 := 1#32
  ![v245.toNat, 1]
def k0_off5 (i : grid0.Coords) : Fin 3 → Nat :=
  let arg0 : BitVec 32 := BitVec.ofNat 32 (i 0).val
  let c2_i32_118 : BitVec 32 := 2#32
  let c0_i32_119 : BitVec 32 := 0#32
  let v226 : BitVec 1 := Scalar.cmpi .eq c2_i32_118 c0_i32_119
  let c1_i32_120 : BitVec 32 := 1#32
  let v227 : BitVec 32 := Scalar.select v226 c1_i32_120 c2_i32_118
  let v228 : BitVec 32 := Scalar.remsi arg0 v227
  let c0_i32_122 : BitVec 32 := 0#32
  let v230 : BitVec 1 := Scalar.cmpi .slt v228 c0_i32_122
  let c0_i32_123 : BitVec 32 := 0#32
  let v231 : BitVec 1 := Scalar.cmpi .slt v227 c0_i32_123
  let v232 : BitVec 1 := Scalar.xori v230 v231
  let c0_i32_121 : BitVec 32 := 0#32
  let v229 : BitVec 1 := Scalar.cmpi .ne v228 c0_i32_121
  let v233 : BitVec 1 := Scalar.andi v232 v229
  let v234 : BitVec 32 := Scalar.addi v228 v227
  let v235 : BitVec 32 := Scalar.select v233 v234 v228
  let c1600_i32_132 : BitVec 32 := 1600#32
  let c0_i32_133 : BitVec 32 := 0#32
  ![v235.toNat, 1600, 0]
def k0_off6 (i : grid0.Coords) : Fin 3 → Nat :=
  let arg0 : BitVec 32 := BitVec.ofNat 32 (i 0).val
  let c1600_i32_117 : BitVec 32 := 1600#32
  let v225 : BitVec 32 := Scalar.muli arg0 c1600_i32_117
  let c1_i32_130 : BitVec 32 := 1#32
  let c0_i32_134 : BitVec 32 := 0#32
  ![v225.toNat, 1, 0]
def k0_off7 (i : grid0.Coords) : Fin 2 → Nat :=
  let arg0 : BitVec 32 := BitVec.ofNat 32 (i 0).val
  let c2_i32_142 : BitVec 32 := 2#32
  let c0_i32_143 : BitVec 32 := 0#32
  let v263 : BitVec 1 := Scalar.cmpi .eq c2_i32_142 c0_i32_143
  let c1_i32_144 : BitVec 32 := 1#32
  let v264 : BitVec 32 := Scalar.select v263 c1_i32_144 c2_i32_142
  let v265 : BitVec 32 := Scalar.remsi arg0 v264
  let c0_i32_146 : BitVec 32 := 0#32
  let v267 : BitVec 1 := Scalar.cmpi .slt v265 c0_i32_146
  let c0_i32_147 : BitVec 32 := 0#32
  let v268 : BitVec 1 := Scalar.cmpi .slt v264 c0_i32_147
  let v269 : BitVec 1 := Scalar.xori v267 v268
  let c0_i32_145 : BitVec 32 := 0#32
  let v266 : BitVec 1 := Scalar.cmpi .ne v265 c0_i32_145
  let v270 : BitVec 1 := Scalar.andi v269 v266
  let v271 : BitVec 32 := Scalar.addi v265 v264
  let v272 : BitVec 32 := Scalar.select v270 v271 v265
  let c2_i32_149 : BitVec 32 := 2#32
  ![v272.toNat, 2]
def k0_off8 (i : grid0.Coords) : Fin 3 → Nat :=
  let arg0 : BitVec 32 := BitVec.ofNat 32 (i 0).val
  let c2_i32_136 : BitVec 32 := 2#32
  let c0_i32_137 : BitVec 32 := 0#32
  let v253 : BitVec 1 := Scalar.cmpi .eq c2_i32_136 c0_i32_137
  let c1_i32_138 : BitVec 32 := 1#32
  let v254 : BitVec 32 := Scalar.select v253 c1_i32_138 c2_i32_136
  let v255 : BitVec 32 := Scalar.remsi arg0 v254
  let c0_i32_140 : BitVec 32 := 0#32
  let v257 : BitVec 1 := Scalar.cmpi .slt v255 c0_i32_140
  let c0_i32_141 : BitVec 32 := 0#32
  let v258 : BitVec 1 := Scalar.cmpi .slt v254 c0_i32_141
  let v259 : BitVec 1 := Scalar.xori v257 v258
  let c0_i32_139 : BitVec 32 := 0#32
  let v256 : BitVec 1 := Scalar.cmpi .ne v255 c0_i32_139
  let v260 : BitVec 1 := Scalar.andi v259 v256
  let v261 : BitVec 32 := Scalar.addi v255 v254
  let v262 : BitVec 32 := Scalar.select v260 v261 v255
  let c3200_i32 : BitVec 32 := 3200#32
  let c0_i32_150 : BitVec 32 := 0#32
  ![v262.toNat, 3200, 0]
def k0_off9 (i : grid0.Coords) : Fin 3 → Nat :=
  let arg0 : BitVec 32 := BitVec.ofNat 32 (i 0).val
  let c1600_i32_135 : BitVec 32 := 1600#32
  let v252 : BitVec 32 := Scalar.muli arg0 c1600_i32_135
  let c2_i32_148 : BitVec 32 := 2#32
  let c0_i32_151 : BitVec 32 := 0#32
  ![v252.toNat, 2, 0]
def k0_off10 (i : grid0.Coords) : Fin 2 → Nat :=
  let arg0 : BitVec 32 := BitVec.ofNat 32 (i 0).val
  let c2_i32_159 : BitVec 32 := 2#32
  let c0_i32_160 : BitVec 32 := 0#32
  let v290 : BitVec 1 := Scalar.cmpi .eq c2_i32_159 c0_i32_160
  let c1_i32_161 : BitVec 32 := 1#32
  let v291 : BitVec 32 := Scalar.select v290 c1_i32_161 c2_i32_159
  let v292 : BitVec 32 := Scalar.remsi arg0 v291
  let c0_i32_163 : BitVec 32 := 0#32
  let v294 : BitVec 1 := Scalar.cmpi .slt v292 c0_i32_163
  let c0_i32_164 : BitVec 32 := 0#32
  let v295 : BitVec 1 := Scalar.cmpi .slt v291 c0_i32_164
  let v296 : BitVec 1 := Scalar.xori v294 v295
  let c0_i32_162 : BitVec 32 := 0#32
  let v293 : BitVec 1 := Scalar.cmpi .ne v292 c0_i32_162
  let v297 : BitVec 1 := Scalar.andi v296 v293
  let v298 : BitVec 32 := Scalar.addi v292 v291
  let v299 : BitVec 32 := Scalar.select v297 v298 v292
  let c3_i32_165 : BitVec 32 := 3#32
  ![v299.toNat, 3]
def k0_off11 (i : grid0.Coords) : Fin 3 → Nat :=
  let arg0 : BitVec 32 := BitVec.ofNat 32 (i 0).val
  let c2_i32_153 : BitVec 32 := 2#32
  let c0_i32_154 : BitVec 32 := 0#32
  let v280 : BitVec 1 := Scalar.cmpi .eq c2_i32_153 c0_i32_154
  let c1_i32_155 : BitVec 32 := 1#32
  let v281 : BitVec 32 := Scalar.select v280 c1_i32_155 c2_i32_153
  let v282 : BitVec 32 := Scalar.remsi arg0 v281
  let c0_i32_157 : BitVec 32 := 0#32
  let v284 : BitVec 1 := Scalar.cmpi .slt v282 c0_i32_157
  let c0_i32_158 : BitVec 32 := 0#32
  let v285 : BitVec 1 := Scalar.cmpi .slt v281 c0_i32_158
  let v286 : BitVec 1 := Scalar.xori v284 v285
  let c0_i32_156 : BitVec 32 := 0#32
  let v283 : BitVec 1 := Scalar.cmpi .ne v282 c0_i32_156
  let v287 : BitVec 1 := Scalar.andi v286 v283
  let v288 : BitVec 32 := Scalar.addi v282 v281
  let v289 : BitVec 32 := Scalar.select v287 v288 v282
  let c4800_i32 : BitVec 32 := 4800#32
  let c0_i32_166 : BitVec 32 := 0#32
  ![v289.toNat, 4800, 0]
def k0_off12 (i : grid0.Coords) : Fin 3 → Nat :=
  let arg0 : BitVec 32 := BitVec.ofNat 32 (i 0).val
  let c1600_i32_152 : BitVec 32 := 1600#32
  let v279 : BitVec 32 := Scalar.muli arg0 c1600_i32_152
  let c3_i32 : BitVec 32 := 3#32
  let c0_i32_167 : BitVec 32 := 0#32
  ![v279.toNat, 3, 0]
def k0_off13 (i : grid0.Coords) : Fin 2 → Nat :=
  let arg0 : BitVec 32 := BitVec.ofNat 32 (i 0).val
  let c2_i32_175 : BitVec 32 := 2#32
  let c0_i32_176 : BitVec 32 := 0#32
  let v317 : BitVec 1 := Scalar.cmpi .eq c2_i32_175 c0_i32_176
  let c1_i32_177 : BitVec 32 := 1#32
  let v318 : BitVec 32 := Scalar.select v317 c1_i32_177 c2_i32_175
  let v319 : BitVec 32 := Scalar.remsi arg0 v318
  let c0_i32_179 : BitVec 32 := 0#32
  let v321 : BitVec 1 := Scalar.cmpi .slt v319 c0_i32_179
  let c0_i32_180 : BitVec 32 := 0#32
  let v322 : BitVec 1 := Scalar.cmpi .slt v318 c0_i32_180
  let v323 : BitVec 1 := Scalar.xori v321 v322
  let c0_i32_178 : BitVec 32 := 0#32
  let v320 : BitVec 1 := Scalar.cmpi .ne v319 c0_i32_178
  let v324 : BitVec 1 := Scalar.andi v323 v320
  let v325 : BitVec 32 := Scalar.addi v319 v318
  let v326 : BitVec 32 := Scalar.select v324 v325 v319
  let c4_i32_181 : BitVec 32 := 4#32
  ![v326.toNat, 4]
def k0_off14 (i : grid0.Coords) : Fin 3 → Nat :=
  let arg0 : BitVec 32 := BitVec.ofNat 32 (i 0).val
  let c2_i32_169 : BitVec 32 := 2#32
  let c0_i32_170 : BitVec 32 := 0#32
  let v307 : BitVec 1 := Scalar.cmpi .eq c2_i32_169 c0_i32_170
  let c1_i32_171 : BitVec 32 := 1#32
  let v308 : BitVec 32 := Scalar.select v307 c1_i32_171 c2_i32_169
  let v309 : BitVec 32 := Scalar.remsi arg0 v308
  let c0_i32_173 : BitVec 32 := 0#32
  let v311 : BitVec 1 := Scalar.cmpi .slt v309 c0_i32_173
  let c0_i32_174 : BitVec 32 := 0#32
  let v312 : BitVec 1 := Scalar.cmpi .slt v308 c0_i32_174
  let v313 : BitVec 1 := Scalar.xori v311 v312
  let c0_i32_172 : BitVec 32 := 0#32
  let v310 : BitVec 1 := Scalar.cmpi .ne v309 c0_i32_172
  let v314 : BitVec 1 := Scalar.andi v313 v310
  let v315 : BitVec 32 := Scalar.addi v309 v308
  let v316 : BitVec 32 := Scalar.select v314 v315 v309
  let c6400_i32 : BitVec 32 := 6400#32
  let c0_i32_182 : BitVec 32 := 0#32
  ![v316.toNat, 6400, 0]
def k0_off15 (i : grid0.Coords) : Fin 3 → Nat :=
  let arg0 : BitVec 32 := BitVec.ofNat 32 (i 0).val
  let c1600_i32_168 : BitVec 32 := 1600#32
  let v306 : BitVec 32 := Scalar.muli arg0 c1600_i32_168
  let c4_i32 : BitVec 32 := 4#32
  let c0_i32_183 : BitVec 32 := 0#32
  ![v306.toNat, 4, 0]
def k0_off16 (i : grid0.Coords) : Fin 2 → Nat :=
  let arg0 : BitVec 32 := BitVec.ofNat 32 (i 0).val
  let c2_i32_191 : BitVec 32 := 2#32
  let c0_i32_192 : BitVec 32 := 0#32
  let v344 : BitVec 1 := Scalar.cmpi .eq c2_i32_191 c0_i32_192
  let c1_i32_193 : BitVec 32 := 1#32
  let v345 : BitVec 32 := Scalar.select v344 c1_i32_193 c2_i32_191
  let v346 : BitVec 32 := Scalar.remsi arg0 v345
  let c0_i32_195 : BitVec 32 := 0#32
  let v348 : BitVec 1 := Scalar.cmpi .slt v346 c0_i32_195
  let c0_i32_196 : BitVec 32 := 0#32
  let v349 : BitVec 1 := Scalar.cmpi .slt v345 c0_i32_196
  let v350 : BitVec 1 := Scalar.xori v348 v349
  let c0_i32_194 : BitVec 32 := 0#32
  let v347 : BitVec 1 := Scalar.cmpi .ne v346 c0_i32_194
  let v351 : BitVec 1 := Scalar.andi v350 v347
  let v352 : BitVec 32 := Scalar.addi v346 v345
  let v353 : BitVec 32 := Scalar.select v351 v352 v346
  let c5_i32_197 : BitVec 32 := 5#32
  ![v353.toNat, 5]
def k0_off17 (i : grid0.Coords) : Fin 3 → Nat :=
  let arg0 : BitVec 32 := BitVec.ofNat 32 (i 0).val
  let c2_i32_185 : BitVec 32 := 2#32
  let c0_i32_186 : BitVec 32 := 0#32
  let v334 : BitVec 1 := Scalar.cmpi .eq c2_i32_185 c0_i32_186
  let c1_i32_187 : BitVec 32 := 1#32
  let v335 : BitVec 32 := Scalar.select v334 c1_i32_187 c2_i32_185
  let v336 : BitVec 32 := Scalar.remsi arg0 v335
  let c0_i32_189 : BitVec 32 := 0#32
  let v338 : BitVec 1 := Scalar.cmpi .slt v336 c0_i32_189
  let c0_i32_190 : BitVec 32 := 0#32
  let v339 : BitVec 1 := Scalar.cmpi .slt v335 c0_i32_190
  let v340 : BitVec 1 := Scalar.xori v338 v339
  let c0_i32_188 : BitVec 32 := 0#32
  let v337 : BitVec 1 := Scalar.cmpi .ne v336 c0_i32_188
  let v341 : BitVec 1 := Scalar.andi v340 v337
  let v342 : BitVec 32 := Scalar.addi v336 v335
  let v343 : BitVec 32 := Scalar.select v341 v342 v336
  let c8000_i32 : BitVec 32 := 8000#32
  let c0_i32_198 : BitVec 32 := 0#32
  ![v343.toNat, 8000, 0]
def k0_off18 (i : grid0.Coords) : Fin 3 → Nat :=
  let arg0 : BitVec 32 := BitVec.ofNat 32 (i 0).val
  let c1600_i32_184 : BitVec 32 := 1600#32
  let v333 : BitVec 32 := Scalar.muli arg0 c1600_i32_184
  let c5_i32 : BitVec 32 := 5#32
  let c0_i32_199 : BitVec 32 := 0#32
  ![v333.toNat, 5, 0]
def k0_off19 (i : grid0.Coords) : Fin 2 → Nat :=
  let arg0 : BitVec 32 := BitVec.ofNat 32 (i 0).val
  let c2_i32_207 : BitVec 32 := 2#32
  let c0_i32_208 : BitVec 32 := 0#32
  let v371 : BitVec 1 := Scalar.cmpi .eq c2_i32_207 c0_i32_208
  let c1_i32_209 : BitVec 32 := 1#32
  let v372 : BitVec 32 := Scalar.select v371 c1_i32_209 c2_i32_207
  let v373 : BitVec 32 := Scalar.remsi arg0 v372
  let c0_i32_211 : BitVec 32 := 0#32
  let v375 : BitVec 1 := Scalar.cmpi .slt v373 c0_i32_211
  let c0_i32_212 : BitVec 32 := 0#32
  let v376 : BitVec 1 := Scalar.cmpi .slt v372 c0_i32_212
  let v377 : BitVec 1 := Scalar.xori v375 v376
  let c0_i32_210 : BitVec 32 := 0#32
  let v374 : BitVec 1 := Scalar.cmpi .ne v373 c0_i32_210
  let v378 : BitVec 1 := Scalar.andi v377 v374
  let v379 : BitVec 32 := Scalar.addi v373 v372
  let v380 : BitVec 32 := Scalar.select v378 v379 v373
  let c6_i32_213 : BitVec 32 := 6#32
  ![v380.toNat, 6]
def k0_off20 (i : grid0.Coords) : Fin 3 → Nat :=
  let arg0 : BitVec 32 := BitVec.ofNat 32 (i 0).val
  let c2_i32_201 : BitVec 32 := 2#32
  let c0_i32_202 : BitVec 32 := 0#32
  let v361 : BitVec 1 := Scalar.cmpi .eq c2_i32_201 c0_i32_202
  let c1_i32_203 : BitVec 32 := 1#32
  let v362 : BitVec 32 := Scalar.select v361 c1_i32_203 c2_i32_201
  let v363 : BitVec 32 := Scalar.remsi arg0 v362
  let c0_i32_205 : BitVec 32 := 0#32
  let v365 : BitVec 1 := Scalar.cmpi .slt v363 c0_i32_205
  let c0_i32_206 : BitVec 32 := 0#32
  let v366 : BitVec 1 := Scalar.cmpi .slt v362 c0_i32_206
  let v367 : BitVec 1 := Scalar.xori v365 v366
  let c0_i32_204 : BitVec 32 := 0#32
  let v364 : BitVec 1 := Scalar.cmpi .ne v363 c0_i32_204
  let v368 : BitVec 1 := Scalar.andi v367 v364
  let v369 : BitVec 32 := Scalar.addi v363 v362
  let v370 : BitVec 32 := Scalar.select v368 v369 v363
  let c9600_i32 : BitVec 32 := 9600#32
  let c0_i32_214 : BitVec 32 := 0#32
  ![v370.toNat, 9600, 0]
def k0_off21 (i : grid0.Coords) : Fin 3 → Nat :=
  let arg0 : BitVec 32 := BitVec.ofNat 32 (i 0).val
  let c1600_i32_200 : BitVec 32 := 1600#32
  let v360 : BitVec 32 := Scalar.muli arg0 c1600_i32_200
  let c6_i32 : BitVec 32 := 6#32
  let c0_i32_215 : BitVec 32 := 0#32
  ![v360.toNat, 6, 0]
def k0_off22 (i : grid0.Coords) : Fin 2 → Nat :=
  let arg0 : BitVec 32 := BitVec.ofNat 32 (i 0).val
  let c2_i32_223 : BitVec 32 := 2#32
  let c0_i32_224 : BitVec 32 := 0#32
  let v398 : BitVec 1 := Scalar.cmpi .eq c2_i32_223 c0_i32_224
  let c1_i32_225 : BitVec 32 := 1#32
  let v399 : BitVec 32 := Scalar.select v398 c1_i32_225 c2_i32_223
  let v400 : BitVec 32 := Scalar.remsi arg0 v399
  let c0_i32_227 : BitVec 32 := 0#32
  let v402 : BitVec 1 := Scalar.cmpi .slt v400 c0_i32_227
  let c0_i32_228 : BitVec 32 := 0#32
  let v403 : BitVec 1 := Scalar.cmpi .slt v399 c0_i32_228
  let v404 : BitVec 1 := Scalar.xori v402 v403
  let c0_i32_226 : BitVec 32 := 0#32
  let v401 : BitVec 1 := Scalar.cmpi .ne v400 c0_i32_226
  let v405 : BitVec 1 := Scalar.andi v404 v401
  let v406 : BitVec 32 := Scalar.addi v400 v399
  let v407 : BitVec 32 := Scalar.select v405 v406 v400
  let c7_i32_229 : BitVec 32 := 7#32
  ![v407.toNat, 7]
def k0_off23 (i : grid0.Coords) : Fin 3 → Nat :=
  let arg0 : BitVec 32 := BitVec.ofNat 32 (i 0).val
  let c2_i32_217 : BitVec 32 := 2#32
  let c0_i32_218 : BitVec 32 := 0#32
  let v388 : BitVec 1 := Scalar.cmpi .eq c2_i32_217 c0_i32_218
  let c1_i32_219 : BitVec 32 := 1#32
  let v389 : BitVec 32 := Scalar.select v388 c1_i32_219 c2_i32_217
  let v390 : BitVec 32 := Scalar.remsi arg0 v389
  let c0_i32_221 : BitVec 32 := 0#32
  let v392 : BitVec 1 := Scalar.cmpi .slt v390 c0_i32_221
  let c0_i32_222 : BitVec 32 := 0#32
  let v393 : BitVec 1 := Scalar.cmpi .slt v389 c0_i32_222
  let v394 : BitVec 1 := Scalar.xori v392 v393
  let c0_i32_220 : BitVec 32 := 0#32
  let v391 : BitVec 1 := Scalar.cmpi .ne v390 c0_i32_220
  let v395 : BitVec 1 := Scalar.andi v394 v391
  let v396 : BitVec 32 := Scalar.addi v390 v389
  let v397 : BitVec 32 := Scalar.select v395 v396 v390
  let c11200_i32 : BitVec 32 := 11200#32
  let c0_i32_230 : BitVec 32 := 0#32
  ![v397.toNat, 11200, 0]
def k0_off24 (i : grid0.Coords) : Fin 3 → Nat :=
  let arg0 : BitVec 32 := BitVec.ofNat 32 (i 0).val
  let c1600_i32_216 : BitVec 32 := 1600#32
  let v387 : BitVec 32 := Scalar.muli arg0 c1600_i32_216
  let c7_i32 : BitVec 32 := 7#32
  let c0_i32_231 : BitVec 32 := 0#32
  ![v387.toNat, 7, 0]
def k0_off25 (i : grid0.Coords) : Fin 2 → Nat :=
  let arg0 : BitVec 32 := BitVec.ofNat 32 (i 0).val
  let c2_i32_239 : BitVec 32 := 2#32
  let c0_i32_240 : BitVec 32 := 0#32
  let v425 : BitVec 1 := Scalar.cmpi .eq c2_i32_239 c0_i32_240
  let c1_i32_241 : BitVec 32 := 1#32
  let v426 : BitVec 32 := Scalar.select v425 c1_i32_241 c2_i32_239
  let v427 : BitVec 32 := Scalar.remsi arg0 v426
  let c0_i32_243 : BitVec 32 := 0#32
  let v429 : BitVec 1 := Scalar.cmpi .slt v427 c0_i32_243
  let c0_i32_244 : BitVec 32 := 0#32
  let v430 : BitVec 1 := Scalar.cmpi .slt v426 c0_i32_244
  let v431 : BitVec 1 := Scalar.xori v429 v430
  let c0_i32_242 : BitVec 32 := 0#32
  let v428 : BitVec 1 := Scalar.cmpi .ne v427 c0_i32_242
  let v432 : BitVec 1 := Scalar.andi v431 v428
  let v433 : BitVec 32 := Scalar.addi v427 v426
  let v434 : BitVec 32 := Scalar.select v432 v433 v427
  let c8_i32_245 : BitVec 32 := 8#32
  ![v434.toNat, 8]
def k0_off26 (i : grid0.Coords) : Fin 3 → Nat :=
  let arg0 : BitVec 32 := BitVec.ofNat 32 (i 0).val
  let c2_i32_233 : BitVec 32 := 2#32
  let c0_i32_234 : BitVec 32 := 0#32
  let v415 : BitVec 1 := Scalar.cmpi .eq c2_i32_233 c0_i32_234
  let c1_i32_235 : BitVec 32 := 1#32
  let v416 : BitVec 32 := Scalar.select v415 c1_i32_235 c2_i32_233
  let v417 : BitVec 32 := Scalar.remsi arg0 v416
  let c0_i32_237 : BitVec 32 := 0#32
  let v419 : BitVec 1 := Scalar.cmpi .slt v417 c0_i32_237
  let c0_i32_238 : BitVec 32 := 0#32
  let v420 : BitVec 1 := Scalar.cmpi .slt v416 c0_i32_238
  let v421 : BitVec 1 := Scalar.xori v419 v420
  let c0_i32_236 : BitVec 32 := 0#32
  let v418 : BitVec 1 := Scalar.cmpi .ne v417 c0_i32_236
  let v422 : BitVec 1 := Scalar.andi v421 v418
  let v423 : BitVec 32 := Scalar.addi v417 v416
  let v424 : BitVec 32 := Scalar.select v422 v423 v417
  let c12800_i32 : BitVec 32 := 12800#32
  let c0_i32_246 : BitVec 32 := 0#32
  ![v424.toNat, 12800, 0]
def k0_off27 (i : grid0.Coords) : Fin 3 → Nat :=
  let arg0 : BitVec 32 := BitVec.ofNat 32 (i 0).val
  let c1600_i32_232 : BitVec 32 := 1600#32
  let v414 : BitVec 32 := Scalar.muli arg0 c1600_i32_232
  let c8_i32 : BitVec 32 := 8#32
  let c0_i32_247 : BitVec 32 := 0#32
  ![v414.toNat, 8, 0]
def k0_off28 (i : grid0.Coords) : Fin 2 → Nat :=
  let arg0 : BitVec 32 := BitVec.ofNat 32 (i 0).val
  let c2_i32_255 : BitVec 32 := 2#32
  let c0_i32_256 : BitVec 32 := 0#32
  let v452 : BitVec 1 := Scalar.cmpi .eq c2_i32_255 c0_i32_256
  let c1_i32_257 : BitVec 32 := 1#32
  let v453 : BitVec 32 := Scalar.select v452 c1_i32_257 c2_i32_255
  let v454 : BitVec 32 := Scalar.remsi arg0 v453
  let c0_i32_259 : BitVec 32 := 0#32
  let v456 : BitVec 1 := Scalar.cmpi .slt v454 c0_i32_259
  let c0_i32_260 : BitVec 32 := 0#32
  let v457 : BitVec 1 := Scalar.cmpi .slt v453 c0_i32_260
  let v458 : BitVec 1 := Scalar.xori v456 v457
  let c0_i32_258 : BitVec 32 := 0#32
  let v455 : BitVec 1 := Scalar.cmpi .ne v454 c0_i32_258
  let v459 : BitVec 1 := Scalar.andi v458 v455
  let v460 : BitVec 32 := Scalar.addi v454 v453
  let v461 : BitVec 32 := Scalar.select v459 v460 v454
  let c9_i32_261 : BitVec 32 := 9#32
  ![v461.toNat, 9]
def k0_off29 (i : grid0.Coords) : Fin 3 → Nat :=
  let arg0 : BitVec 32 := BitVec.ofNat 32 (i 0).val
  let c2_i32_249 : BitVec 32 := 2#32
  let c0_i32_250 : BitVec 32 := 0#32
  let v442 : BitVec 1 := Scalar.cmpi .eq c2_i32_249 c0_i32_250
  let c1_i32_251 : BitVec 32 := 1#32
  let v443 : BitVec 32 := Scalar.select v442 c1_i32_251 c2_i32_249
  let v444 : BitVec 32 := Scalar.remsi arg0 v443
  let c0_i32_253 : BitVec 32 := 0#32
  let v446 : BitVec 1 := Scalar.cmpi .slt v444 c0_i32_253
  let c0_i32_254 : BitVec 32 := 0#32
  let v447 : BitVec 1 := Scalar.cmpi .slt v443 c0_i32_254
  let v448 : BitVec 1 := Scalar.xori v446 v447
  let c0_i32_252 : BitVec 32 := 0#32
  let v445 : BitVec 1 := Scalar.cmpi .ne v444 c0_i32_252
  let v449 : BitVec 1 := Scalar.andi v448 v445
  let v450 : BitVec 32 := Scalar.addi v444 v443
  let v451 : BitVec 32 := Scalar.select v449 v450 v444
  let c14400_i32 : BitVec 32 := 14400#32
  let c0_i32_262 : BitVec 32 := 0#32
  ![v451.toNat, 14400, 0]
def k0_off30 (i : grid0.Coords) : Fin 3 → Nat :=
  let arg0 : BitVec 32 := BitVec.ofNat 32 (i 0).val
  let c1600_i32_248 : BitVec 32 := 1600#32
  let v441 : BitVec 32 := Scalar.muli arg0 c1600_i32_248
  let c9_i32 : BitVec 32 := 9#32
  let c0_i32_263 : BitVec 32 := 0#32
  ![v441.toNat, 9, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off31 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c0_i32_108 : BitVec 32 := 0#32
  ![v208.toNat, 0]
def k0_off32 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c0_i32_109 : BitVec 32 := 0#32
  let c0_i32_110 : BitVec 32 := 0#32
  ![v208.toNat, 0, 0]
def k0_off33 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32 : BitVec 32 := 1600#32
  let v209 : BitVec 32 := Scalar.muli v198 c1600_i32
  let c0_i32_107 : BitVec 32 := 0#32
  let c0_i32_111 : BitVec 32 := 0#32
  ![v209.toNat, 0, 0]
def k0_off34 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c1_i32_114 : BitVec 32 := 1#32
  ![v208.toNat, 1]
def k0_off35 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c1600_i32_115 : BitVec 32 := 1600#32
  let c0_i32_116 : BitVec 32 := 0#32
  ![v208.toNat, 1600, 0]
def k0_off36 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32_112 : BitVec 32 := 1600#32
  let v216 : BitVec 32 := Scalar.muli v198 c1600_i32_112
  let c1_i32_113 : BitVec 32 := 1#32
  let c0_i32_117 : BitVec 32 := 0#32
  ![v216.toNat, 1, 0]
def k0_off37 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c2_i32_120 : BitVec 32 := 2#32
  ![v208.toNat, 2]
def k0_off38 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c3200_i32 : BitVec 32 := 3200#32
  let c0_i32_121 : BitVec 32 := 0#32
  ![v208.toNat, 3200, 0]
def k0_off39 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32_118 : BitVec 32 := 1600#32
  let v223 : BitVec 32 := Scalar.muli v198 c1600_i32_118
  let c2_i32_119 : BitVec 32 := 2#32
  let c0_i32_122 : BitVec 32 := 0#32
  ![v223.toNat, 2, 0]
def k0_off40 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c3_i32_124 : BitVec 32 := 3#32
  ![v208.toNat, 3]
def k0_off41 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c4800_i32 : BitVec 32 := 4800#32
  let c0_i32_125 : BitVec 32 := 0#32
  ![v208.toNat, 4800, 0]
def k0_off42 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32_123 : BitVec 32 := 1600#32
  let v230 : BitVec 32 := Scalar.muli v198 c1600_i32_123
  let c3_i32 : BitVec 32 := 3#32
  let c0_i32_126 : BitVec 32 := 0#32
  ![v230.toNat, 3, 0]
def k0_off43 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c4_i32_128 : BitVec 32 := 4#32
  ![v208.toNat, 4]
def k0_off44 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c6400_i32 : BitVec 32 := 6400#32
  let c0_i32_129 : BitVec 32 := 0#32
  ![v208.toNat, 6400, 0]
def k0_off45 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32_127 : BitVec 32 := 1600#32
  let v237 : BitVec 32 := Scalar.muli v198 c1600_i32_127
  let c4_i32 : BitVec 32 := 4#32
  let c0_i32_130 : BitVec 32 := 0#32
  ![v237.toNat, 4, 0]
def k0_off46 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c5_i32_132 : BitVec 32 := 5#32
  ![v208.toNat, 5]
def k0_off47 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c8000_i32 : BitVec 32 := 8000#32
  let c0_i32_133 : BitVec 32 := 0#32
  ![v208.toNat, 8000, 0]
def k0_off48 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32_131 : BitVec 32 := 1600#32
  let v244 : BitVec 32 := Scalar.muli v198 c1600_i32_131
  let c5_i32 : BitVec 32 := 5#32
  let c0_i32_134 : BitVec 32 := 0#32
  ![v244.toNat, 5, 0]
def k0_off49 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c6_i32_136 : BitVec 32 := 6#32
  ![v208.toNat, 6]
def k0_off50 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c9600_i32 : BitVec 32 := 9600#32
  let c0_i32_137 : BitVec 32 := 0#32
  ![v208.toNat, 9600, 0]
def k0_off51 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32_135 : BitVec 32 := 1600#32
  let v251 : BitVec 32 := Scalar.muli v198 c1600_i32_135
  let c6_i32 : BitVec 32 := 6#32
  let c0_i32_138 : BitVec 32 := 0#32
  ![v251.toNat, 6, 0]
def k0_off52 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c7_i32_140 : BitVec 32 := 7#32
  ![v208.toNat, 7]
def k0_off53 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c11200_i32 : BitVec 32 := 11200#32
  let c0_i32_141 : BitVec 32 := 0#32
  ![v208.toNat, 11200, 0]
def k0_off54 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32_139 : BitVec 32 := 1600#32
  let v258 : BitVec 32 := Scalar.muli v198 c1600_i32_139
  let c7_i32 : BitVec 32 := 7#32
  let c0_i32_142 : BitVec 32 := 0#32
  ![v258.toNat, 7, 0]
def k0_off55 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c8_i32_144 : BitVec 32 := 8#32
  ![v208.toNat, 8]
def k0_off56 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c12800_i32 : BitVec 32 := 12800#32
  let c0_i32_145 : BitVec 32 := 0#32
  ![v208.toNat, 12800, 0]
def k0_off57 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32_143 : BitVec 32 := 1600#32
  let v265 : BitVec 32 := Scalar.muli v198 c1600_i32_143
  let c8_i32 : BitVec 32 := 8#32
  let c0_i32_146 : BitVec 32 := 0#32
  ![v265.toNat, 8, 0]
def k0_off58 (i : grid0.Coords) : Fin 2 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c9_i32_148 : BitVec 32 := 9#32
  ![v208.toNat, 9]
def k0_off59 (i : grid0.Coords) : Fin 3 → Nat :=
  let arg0 : BitVec 32 := BitVec.ofNat 32 (i 0).val
  let c1_i32_100 : BitVec 32 := 1#32
  let v198 : BitVec 32 := Scalar.subi arg0 c1_i32_100
  let c2_i32_101 : BitVec 32 := 2#32
  let c0_i32_102 : BitVec 32 := 0#32
  let v199 : BitVec 1 := Scalar.cmpi .eq c2_i32_101 c0_i32_102
  let c1_i32_103 : BitVec 32 := 1#32
  let v200 : BitVec 32 := Scalar.select v199 c1_i32_103 c2_i32_101
  let v201 : BitVec 32 := Scalar.remsi v198 v200
  let c0_i32_105 : BitVec 32 := 0#32
  let v203 : BitVec 1 := Scalar.cmpi .slt v201 c0_i32_105
  let c0_i32_106 : BitVec 32 := 0#32
  let v204 : BitVec 1 := Scalar.cmpi .slt v200 c0_i32_106
  let v205 : BitVec 1 := Scalar.xori v203 v204
  let c0_i32_104 : BitVec 32 := 0#32
  let v202 : BitVec 1 := Scalar.cmpi .ne v201 c0_i32_104
  let v206 : BitVec 1 := Scalar.andi v205 v202
  let v207 : BitVec 32 := Scalar.addi v201 v200
  let v208 : BitVec 32 := Scalar.select v206 v207 v201
  let c14400_i32 : BitVec 32 := 14400#32
  let c0_i32_149 : BitVec 32 := 0#32
  ![v208.toNat, 14400, 0]
def k0_off60 (i : grid0.Coords) : Fin 3 → Nat :=
  let arg0 : BitVec 32 := BitVec.ofNat 32 (i 0).val
  let c1_i32_100 : BitVec 32 := 1#32
  let v198 : BitVec 32 := Scalar.subi arg0 c1_i32_100
  let c1600_i32_147 : BitVec 32 := 1600#32
  let v272 : BitVec 32 := Scalar.muli v198 c1600_i32_147
  let c9_i32 : BitVec 32 := 9#32
  let c0_i32_150 : BitVec 32 := 0#32
  ![v272.toNat, 9, 0]
def k0_off61 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : Index := Scalar.indexCast v19
  let c0_9 : Index := 0#32
  let c0_10 : Index := 0#32
  ![v20.toNat, 0, 0]
def k0_off62 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v24 : Index := Scalar.indexCast v19
  let c1600 : Index := 1600#32
  let c0_11 : Index := 0#32
  ![v24.toNat, 1600, 0]
def k0_off63 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v28 : Index := Scalar.indexCast v19
  let c3200 : Index := 3200#32
  let c0_13 : Index := 0#32
  ![v28.toNat, 3200, 0]
def k0_off64 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v32 : Index := Scalar.indexCast v19
  let c4800 : Index := 4800#32
  let c0_15 : Index := 0#32
  ![v32.toNat, 4800, 0]
def k0_off65 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v36 : Index := Scalar.indexCast v19
  let c6400 : Index := 6400#32
  let c0_17 : Index := 0#32
  ![v36.toNat, 6400, 0]
def k0_off66 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v40 : Index := Scalar.indexCast v19
  let c8000 : Index := 8000#32
  let c0_19 : Index := 0#32
  ![v40.toNat, 8000, 0]
def k0_off67 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v44 : Index := Scalar.indexCast v19
  let c9600 : Index := 9600#32
  let c0_21 : Index := 0#32
  ![v44.toNat, 9600, 0]
def k0_off68 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v48 : Index := Scalar.indexCast v19
  let c11200 : Index := 11200#32
  let c0_23 : Index := 0#32
  ![v48.toNat, 11200, 0]
def k0_off69 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v52 : Index := Scalar.indexCast v19
  let c12800 : Index := 12800#32
  let c0_25 : Index := 0#32
  ![v52.toNat, 12800, 0]
def k0_off70 (i : grid0.Coords) : Fin 3 → Nat :=
  let arg0 : BitVec 32 := BitVec.ofNat 32 (i 0).val
  let c1_i32 : BitVec 32 := 1#32
  let v8 : BitVec 32 := Scalar.subi arg0 c1_i32
  let c0_i32_3 : BitVec 32 := 0#32
  let v9 : BitVec 32 := Scalar.maxsi v8 c0_i32_3
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v56 : Index := Scalar.indexCast v19
  let c14400 : Index := 14400#32
  let c0_27 : Index := 0#32
  ![v56.toNat, 14400, 0]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S640x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S64x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2048x64 : Shape := ⟨2, ![2048, 64]⟩
abbrev S51200x128 : Shape := ⟨2, ![51200, 128]⟩
abbrev S51200x10x128 : Shape := ⟨3, ![51200, 10, 128]⟩
abbrev S4x128x16 : Shape := ⟨3, ![4, 128, 16]⟩
abbrev S4x32 : Shape := ⟨2, ![4, 32]⟩
abbrev S1x64x32 : Shape := ⟨3, ![1, 64, 32]⟩
abbrev S1x64 : Shape := ⟨2, ![1, 64]⟩
abbrev S32x1 : Shape := ⟨2, ![32, 1]⟩
abbrev S1 : Shape := ⟨1, ![1]⟩
abbrev S4x16x51200 : Shape := ⟨3, ![4, 16, 51200]⟩
abbrev S4x51200x16 : Shape := ⟨3, ![4, 51200, 16]⟩
abbrev S4x16x51200x10 : Shape := ⟨4, ![4, 16, 51200, 10]⟩
abbrev S4x51200x10x16 : Shape := ⟨4, ![4, 51200, 10, 16]⟩
abbrev S4x16 : Shape := ⟨2, ![4, 16]⟩
abbrev S4x51200 : Shape := ⟨2, ![4, 51200]⟩
abbrev S4x51200x1 : Shape := ⟨3, ![4, 51200, 1]⟩
abbrev S4x51200x10 : Shape := ⟨3, ![4, 51200, 10]⟩
abbrev S_ : Shape := ⟨0, ![]⟩
abbrev S51200x4x16 : Shape := ⟨3, ![51200, 4, 16]⟩
abbrev S51200x64 : Shape := ⟨2, ![51200, 64]⟩
abbrev S2048x25x64 : Shape := ⟨3, ![2048, 25, 64]⟩
abbrev S1x32x2048 : Shape := ⟨3, ![1, 32, 2048]⟩
abbrev S1x2048x32 : Shape := ⟨3, ![1, 2048, 32]⟩
abbrev S1x32x2048x25 : Shape := ⟨4, ![1, 32, 2048, 25]⟩
abbrev S1x2048x25x32 : Shape := ⟨4, ![1, 2048, 25, 32]⟩
abbrev S1x32 : Shape := ⟨2, ![1, 32]⟩
abbrev S1x2048 : Shape := ⟨2, ![1, 2048]⟩
abbrev S1x2048x1 : Shape := ⟨3, ![1, 2048, 1]⟩
abbrev S1x2048x25 : Shape := ⟨3, ![1, 2048, 25]⟩
abbrev S2048x32 : Shape := ⟨2, ![2048, 32]⟩
abbrev S2048x1 : Shape := ⟨2, ![2048, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S51200x128, .f32⟩
  | .hbm, ⟨2, _⟩ => ⟨S51200x10x128, .f32⟩
  | .hbm, ⟨3, _⟩ => ⟨S4x128x16, .f32⟩
  | .hbm, ⟨4, _⟩ => ⟨S4x32, .f32⟩
  | .hbm, ⟨5, _⟩ => ⟨S1x64x32, .f32⟩
  | .hbm, ⟨6, _⟩ => ⟨S1x64, .f32⟩
  | .hbm, ⟨7, _⟩ => ⟨S32x1, .f32⟩
  | .hbm, ⟨8, _⟩ => ⟨S1, .f32⟩
  | .hbm, ⟨9, _⟩ => ⟨S4x16x51200, .f32⟩
  | .hbm, ⟨10, _⟩ => ⟨S4x51200x16, .f32⟩
  | .hbm, ⟨11, _⟩ => ⟨S4x16x51200x10, .f32⟩
  | .hbm, ⟨12, _⟩ => ⟨S4x51200x10x16, .f32⟩
  | .hbm, ⟨13, _⟩ => ⟨S4x16, .f32⟩
  | .hbm, ⟨14, _⟩ => ⟨S4x16, .f32⟩
  | .hbm, ⟨15, _⟩ => ⟨S4x51200, .f32⟩
  | .hbm, ⟨16, _⟩ => ⟨S4x51200x1, .f32⟩
  | .hbm, ⟨17, _⟩ => ⟨S4x51200x10, .f32⟩
  | .hbm, ⟨18, _⟩ => ⟨S4x51200x10, .f32⟩
  | .hbm, ⟨19, _⟩ => ⟨S4x51200x10, .f32⟩
  | .hbm, ⟨20, _⟩ => ⟨S_, .f32⟩
  | .hbm, ⟨21, _⟩ => ⟨S_, .f32⟩
  | .hbm, ⟨22, _⟩ => ⟨S4x51200x10, .f32⟩
  | .hbm, ⟨23, _⟩ => ⟨S4x51200x10, .i1⟩
  | .hbm, ⟨24, _⟩ => ⟨S_, .f32⟩
  | .hbm, ⟨25, _⟩ => ⟨S4x51200x10, .f32⟩
  | .hbm, ⟨26, _⟩ => ⟨S4x51200x10, .f32⟩
  | .hbm, ⟨27, _⟩ => ⟨S4x51200x10, .f32⟩
  | .hbm, ⟨28, _⟩ => ⟨S_, .f32⟩
  | .hbm, ⟨29, _⟩ => ⟨S4x51200, .f32⟩
  | .hbm, ⟨30, _⟩ => ⟨S_, .f32⟩
  | .hbm, ⟨31, _⟩ => ⟨S4x51200, .f32⟩
  | .hbm, ⟨32, _⟩ => ⟨S4x51200, .f32⟩
  | .hbm, ⟨33, _⟩ => ⟨S4x51200x1, .f32⟩
  | .hbm, ⟨34, _⟩ => ⟨S4x51200x10, .f32⟩
  | .hbm, ⟨35, _⟩ => ⟨S4x51200x10, .f32⟩
  | .hbm, ⟨36, _⟩ => ⟨S4x51200x10, .f32⟩
  | .hbm, ⟨37, _⟩ => ⟨S_, .f32⟩
  | .hbm, ⟨38, _⟩ => ⟨S4x51200, .f32⟩
  | .hbm, ⟨39, _⟩ => ⟨S4x51200x1, .f32⟩
  | .hbm, ⟨40, _⟩ => ⟨S4x51200x10, .f32⟩
  | .hbm, ⟨41, _⟩ => ⟨S4x51200x10, .f32⟩
  | .hbm, ⟨42, _⟩ => ⟨S4x51200x16, .f32⟩
  | .hbm, ⟨43, _⟩ => ⟨S51200x4x16, .f32⟩
  | .hbm, ⟨44, _⟩ => ⟨S51200x64, .f32⟩
  | .hbm, ⟨45, _⟩ => ⟨S_, .f32⟩
  | .hbm, ⟨46, _⟩ => ⟨S51200x64, .f32⟩
  | .hbm, ⟨47, _⟩ => ⟨S51200x64, .i1⟩
  | .hbm, ⟨48, _⟩ => ⟨S_, .f32⟩
  | .hbm, ⟨49, _⟩ => ⟨S51200x64, .f32⟩
  | .hbm, ⟨50, _⟩ => ⟨S51200x64, .i1⟩
  | .hbm, ⟨51, _⟩ => ⟨S_, .f32⟩
  | .hbm, ⟨52, _⟩ => ⟨S_, .f32⟩
  | .hbm, ⟨53, _⟩ => ⟨S51200x64, .f32⟩
  | .hbm, ⟨54, _⟩ => ⟨S51200x64, .f32⟩
  | .hbm, ⟨55, _⟩ => ⟨S51200x64, .f32⟩
  | .hbm, ⟨56, _⟩ => ⟨S_, .f32⟩
  | .hbm, ⟨57, _⟩ => ⟨S51200x64, .f32⟩
  | .hbm, ⟨58, _⟩ => ⟨S51200x64, .f32⟩
  | .hbm, ⟨59, _⟩ => ⟨S51200x64, .f32⟩
  | .hbm, ⟨60, _⟩ => ⟨S2048x25x64, .f32⟩
  | .hbm, ⟨61, _⟩ => ⟨S1x32x2048, .f32⟩
  | .hbm, ⟨62, _⟩ => ⟨S1x2048x32, .f32⟩
  | .hbm, ⟨63, _⟩ => ⟨S1x32x2048x25, .f32⟩
  | .hbm, ⟨64, _⟩ => ⟨S1x2048x25x32, .f32⟩
  | .hbm, ⟨65, _⟩ => ⟨S1x32, .f32⟩
  | .hbm, ⟨66, _⟩ => ⟨S1x32, .f32⟩
  | .hbm, ⟨67, _⟩ => ⟨S1x2048, .f32⟩
  | .hbm, ⟨68, _⟩ => ⟨S1x2048x1, .f32⟩
  | .hbm, ⟨69, _⟩ => ⟨S1x2048x25, .f32⟩
  | .hbm, ⟨70, _⟩ => ⟨S1x2048x25, .f32⟩
  | .hbm, ⟨71, _⟩ => ⟨S1x2048x25, .f32⟩
  | .hbm, ⟨72, _⟩ => ⟨S_, .f32⟩
  | .hbm, ⟨73, _⟩ => ⟨S_, .f32⟩
  | .hbm, ⟨74, _⟩ => ⟨S1x2048x25, .f32⟩
  | .hbm, ⟨75, _⟩ => ⟨S1x2048x25, .i1⟩
  | .hbm, ⟨76, _⟩ => ⟨S_, .f32⟩
  | .hbm, ⟨77, _⟩ => ⟨S1x2048x25, .f32⟩
  | .hbm, ⟨78, _⟩ => ⟨S1x2048x25, .f32⟩
  | .hbm, ⟨79, _⟩ => ⟨S1x2048x25, .f32⟩
  | .hbm, ⟨80, _⟩ => ⟨S_, .f32⟩
  | .hbm, ⟨81, _⟩ => ⟨S1x2048, .f32⟩
  | .hbm, ⟨82, _⟩ => ⟨S_, .f32⟩
  | .hbm, ⟨83, _⟩ => ⟨S1x2048, .f32⟩
  | .hbm, ⟨84, _⟩ => ⟨S1x2048, .f32⟩
  | .hbm, ⟨85, _⟩ => ⟨S1x2048x1, .f32⟩
  | .hbm, ⟨86, _⟩ => ⟨S1x2048x25, .f32⟩
  | .hbm, ⟨87, _⟩ => ⟨S1x2048x25, .f32⟩
  | .hbm, ⟨88, _⟩ => ⟨S1x2048x25, .f32⟩
  | .hbm, ⟨89, _⟩ => ⟨S_, .f32⟩
  | .hbm, ⟨90, _⟩ => ⟨S1x2048, .f32⟩
  | .hbm, ⟨91, _⟩ => ⟨S1x2048x1, .f32⟩
  | .hbm, ⟨92, _⟩ => ⟨S1x2048x25, .f32⟩
  | .hbm, ⟨93, _⟩ => ⟨S1x2048x25, .f32⟩
  | .hbm, ⟨94, _⟩ => ⟨S1x2048x32, .f32⟩
  | .hbm, ⟨95, _⟩ => ⟨S_, .f32⟩
  | .hbm, ⟨96, _⟩ => ⟨S2048x32, .f32⟩
  | .hbm, ⟨97, _⟩ => ⟨S_, .f32⟩
  | .hbm, ⟨98, _⟩ => ⟨S2048x32, .f32⟩
  | .hbm, ⟨99, _⟩ => ⟨S2048x32, .f32⟩
  | .hbm, ⟨100, _⟩ => ⟨S2048x1, .f32⟩
  | .hbm, ⟨101, _⟩ => ⟨S1x1, .f32⟩
  | .hbm, ⟨102, _⟩ => ⟨S2048x1, .f32⟩
  | .hbm, ⟨103, _⟩ => ⟨S2048x1, .f32⟩
  | .hbm, ⟨104, _⟩ => ⟨S2048x1, .f32⟩
  | .hbm, ⟨105, _⟩ => ⟨S2048x1, .f32⟩
  | .hbm, ⟨106, _⟩ => ⟨S_, .f32⟩
  | .hbm, ⟨107, _⟩ => ⟨S2048x1, .f32⟩
  | .hbm, ⟨108, _⟩ => ⟨S2048x1, .f32⟩
  | .hbm, ⟨109, _⟩ => ⟨S_, .f32⟩
  | .hbm, ⟨110, _⟩ => ⟨S2048x1, .f32⟩
  | .hbm, ⟨111, _⟩ => ⟨S2048x1, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_cst_0 : Ref sig .tc := ⟨.hbm, 48, rfl⟩
abbrev main_call1_v2 : Ref sig .tc := ⟨.hbm, 49, rfl⟩
abbrev main_call1_v3 : Ref sig .tc := ⟨.hbm, 50, rfl⟩
abbrev main_call1_cst_1 : Ref sig .tc := ⟨.hbm, 51, rfl⟩
abbrev main_call1_call0_v0 : Ref sig .tc := ⟨.hbm, 52, rfl⟩
abbrev main_call1_call0_v1 : Ref sig .tc := ⟨.hbm, 53, rfl⟩
abbrev main_call1_v4 : Ref sig .tc := ⟨.hbm, 54, rfl⟩
abbrev main_call1_v5 : Ref sig .tc := ⟨.hbm, 55, rfl⟩
abbrev main_call1_cst_2 : Ref sig .tc := ⟨.hbm, 56, rfl⟩
abbrev main_call1_v6 : Ref sig .tc := ⟨.hbm, 57, rfl⟩
abbrev main_call1_v7 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_3 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v39 : Ref sig .tc := ⟨.hbm, 79, rfl⟩
abbrev main_cst_4 : Ref sig .tc := ⟨.hbm, 80, rfl⟩
abbrev main_v40 : Ref sig .tc := ⟨.hbm, 81, rfl⟩
abbrev main_cst_5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_6 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_7 : Ref sig .tc := ⟨.hbm, 95, rfl⟩
abbrev main_v52 : Ref sig .tc := ⟨.hbm, 96, rfl⟩
abbrev main_cst_8 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_9 : Ref sig .tc := ⟨.hbm, 106, rfl⟩
abbrev main_v61 : Ref sig .tc := ⟨.hbm, 107, rfl⟩
abbrev main_v62 : Ref sig .tc := ⟨.hbm, 108, rfl⟩
abbrev main_cst_10 : Ref sig .tc := ⟨.hbm, 109, rfl⟩
abbrev main_v63 : Ref sig .tc := ⟨.hbm, 110, rfl⟩
abbrev main_v64 : Ref sig .tc := ⟨.hbm, 111, rfl⟩

abbrev nD : Nat := 1
abbrev τ : Topo := Topo.v7x

variable {F : FTy → Type} [FloatOps F]
-- ==== Proof.Racy.lean ====
/-
  A local transfer whose destination the core may READ while the transfer is in flight.

  The core keeps half of the destination's elements in an invariant of its own; the machine's writes open it, and so
  may a load. What such a load returns is not known. The wait gives the elements back whole, at the landed contents.
-/
module

public import Idealize.ShloMosaic.Lib.Transfers
public import Idealize.ShloMosaic.Lib.Tactic

@[expose] public section

noncomputable section

namespace Cert.Racy

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

variable (EC : UEmb Counters (MT nD τ sig Ix Val Name U Lvl))
variable {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- The shared half of the elements `S`: at some contents while the transfer flies, traded for the two tokens once the
    core has waited. -/
def shareBody (ℓ : Loc nD τ sig) (S : Finset (Idx ℓ)) (γ δ : ℕ) : sProp 𝕄 :=
  iprop((∃ g, ℓ ↦[S]{fullShare.right} g) ∨ (tok EC γ ∗ tok EC δ))

instance shareBody_storable [EC.LandsIn (upEmb : UEmb _ 𝕄)] (ℓ : Loc nD τ sig) (S : Finset (Idx ℓ)) (γ δ : ℕ) :
    Storable (upEmb : UEmb _ 𝕄) (shareBody EC ℓ S γ δ) := by
  unfold shareBody tok count; infer_instance

/-- What the core holds of a transfer in flight into the elements `S` of `ℓ`, which will hold `g` there, `R` coming back
    beside them. -/
def Flying (sm : SemLoc sig) (ι : Ix) (N : ℕ) (ℓ : Loc nD τ sig) (S : Finset (Idx ℓ)) (g : Buf Val ℓ) (R : sProp 𝕄) : sProp 𝕄 :=
  iprop(∃ γ δ κ, inv κ (shareBody EC ℓ S γ δ) ∗ tok EC γ
    ∗ Flight EC c sm ι N iprop(((ℓ ↦[S]{fullShare.left} g) ∗ tok EC δ) ∗ R))

theorem pointsTo_halves {ℓ : Loc nD τ sig} {S : Finset (Idx ℓ)} {f : Buf Val ℓ} :
    (ℓ ↦[S]{fullShare} f : sProp 𝕄) ⊣⊢ iprop((ℓ ↦[S]{fullShare.left} f) ∗ (ℓ ↦[S]{fullShare.right} f)) :=
  pointsTo_share (PosShare.mem_left_op_right fullShare)

/-- Two halves at two contents are the whole at the first. -/
theorem pointsTo_rejoin {ℓ : Loc nD τ sig} {S : Finset (Idx ℓ)} {f g : Buf Val ℓ} :
    iprop((ℓ ↦[S]{fullShare.left} f) ∗ (ℓ ↦[S]{fullShare.right} g)) ⊢ (ℓ ↦[S]{fullShare} f : sProp 𝕄) := by
  have hag : iprop((ℓ ↦[S]{fullShare.left} f) ∗ (ℓ ↦[S]{fullShare.right} g)) ⊢ (⌜∀ i ∈ S, g i = f i⌝ : sProp 𝕄) :=
    pointsTo_agree.trans (BI.pure_mono fun h i hi => ((h i (Finset.mem_inter.mpr ⟨hi, hi⟩)).1).symm)
  refine (and_intro hag .rfl).trans ?_
  refine pure_elim_left fun h => ?_
  rw [pointsTo_congr (q := fullShare.right) h]
  exact pointsTo_halves.2

/-- The write steps of a transfer into shared elements: each opens the invariant for the other half. -/
theorem shared_writeSteps {v : View sig c.2.kind sp s e} {w : s.Idx → Val e} {S : Finset (Idx (v.loc c))} (fd : Buf Val (v.loc c))
    (hS : v.set ⊆ S) {κ : Name} {γ δ : ℕ} :
    (inv κ (shareBody EC (v.loc c) S γ δ) : sProp 𝕄)
      ⊢ writeSteps c v w (fun M => iprop((v.loc c ↦[S]{fullShare.left} (v.write Val fd w M)) ∗ tok EC δ)) := by
  rw [writeSteps_def]
  iintro #Hinv
  imodintro
  iintro %M %M' ⟨Hpt, Hδ⟩
  rw [← View.write_write_union]
  imod (inv_acc (Set.mem_univ κ)) $$ Hinv with ⟨Hb, Hclose⟩
  unfold shareBody
  icases Hb with (⟨%g, Hg⟩ | ⟨-, Hδ'⟩)
  · ihave Hw := (pointsTo_rejoin (ℓ := v.loc c) (S := S)) $$ [Hpt Hg]
    · isplitl [Hpt] <;> iassumption
    imodintro
    rw [storeSpec_apply]
    iexists S, (v.write Val fd w M)
    isplitl [Hw]; · iexact Hw
    isplitr; · ipureintro; exact fun i hi => hS (v.setOn_subset_set _ hi)
    iintro Hpt
    ihave Hp := (pointsTo_halves (ℓ := v.loc c) (S := S)).1 $$ Hpt
    icases Hp with ⟨Hl, Hr⟩
    ihave Hc := Hclose $$ [Hr]
    · ileft; iexists _; iexact Hr
    imod Hc
    imodintro
    isplitl [Hl]; · iexact Hl
    iexact Hδ
  · iexfalso; iapply (tok_tok_false EC δ); isplitl [Hδ] <;> iassumption

/-- The write update of a transfer into shared elements. -/
theorem shared_writeUpdate {v : View sig c.2.kind sp s e} {w : s.Idx → Val e} {S : Finset (Idx (v.loc c))} {fd : Buf Val (v.loc c)}
    (hS : v.set ⊆ S) {κ : Name} {γ δ : ℕ} :
    iprop(inv κ (shareBody EC (v.loc c) S γ δ) ∗ (v.loc c ↦[S]{fullShare.left} fd) ∗ tok EC δ)
      ⊢ writeUpdate c v w iprop((v.loc c ↦[S]{fullShare.left} (v.write Val fd w Finset.univ)) ∗ tok EC δ) := by
  rw [writeUpdate, writeUpdateFrom_def]
  iintro ⟨Hinv, Hpt, Hδ⟩
  iexists (fun M => iprop((v.loc c ↦[S]{fullShare.left} (v.write Val fd w M)) ∗ tok EC δ))
  simp only [View.write_empty]
  isplitl [Hpt Hδ]; · isplitl [Hpt] <;> iassumption
  isplitl [Hinv]
  · iapply (shared_writeSteps EC c fd hS) $$ Hinv
  · exact wand_intro emp_sep.1

/-- START: holding the destination's elements whole, a share of the source's buffer and the cell at zero, the core
    issues the transfer; the destination will hold `g'`, any contents agreeing with what lands on the elements held. -/
theorem wp_start [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {Sd : Finset (Idx (dst.view.loc c))} {fd : Buf Val (dst.view.loc c)}
    (ι : Ix) (N : ℕ) (hN : dst.view.amount sm = N) (hN0 : 0 < N) (hSd : dst.view.set ⊆ Sd)
    (g' : Buf Val (dst.view.loc c)) (hg : ∀ i ∈ Sd, dst.view.write Val fd (src.view.read Val fs) Finset.univ i = g' i) :
    iprop((src.view.loc c ↦{q} fs) ∗ (dst.view.loc c ↦[Sd]{fullShare} fd) ∗ semVal (c, sm) 0)
      ⊢ iprop((Flying EC c sm ι N (dst.view.loc c) Sd g' (src.view.loc c ↦{q} fs)
              -∗ wp frame (wpE defs 𝒱 c bd) Set.univ (k ⟨⟩) Q)
          -∗ wp frame (wpE defs 𝒱 c bd) Set.univ (.op (.enqueueDmaAs src (.here dst) .same sm hsrc hdst hsem) k) Q) := by
  iintro ⟨Hs, Hd, Hv⟩ Hk
  ihave Hs2 := (pointsTo_split_subset (ℓ := src.view.loc c) (S := Finset.univ) (I := src.view.set) (Finset.subset_univ _)).1 $$ Hs
  icases Hs2 with ⟨Hs, Hrest⟩
  ihave Hd2 := (pointsTo_halves (ℓ := dst.view.loc c) (S := Sd)).1 $$ Hd
  icases Hd2 with ⟨Hl, Hr⟩
  imod (count_alloc EC ∅) $$ [] with ⟨%γ₀, -, -, Hγ₀⟩; · iempintro
  imod (count_alloc EC ∅) $$ [] with ⟨%δ₀, -, -, Hδ₀⟩; · iempintro
  imod (inv_alloc (P := shareBody EC (dst.view.loc c) Sd γ₀ δ₀) (E := Set.univ)) $$ [Hr] with ⟨%κ₀, #Hsh⟩
  · unfold shareBody; ileft; iexists _; iexact Hr
  imod (flight_alloc EC hN0 iprop((((dst.view.loc c ↦[Sd]{fullShare.left} (dst.view.write Val fd (src.view.read Val fs) Finset.univ)) ∗ tok EC δ₀)
        ∗ (src.view.loc c ↦[Finset.univ \ src.view.set]{q} fs))
      ∗ (src.view.loc c ↦[src.view.set]{q} fs)) (g := (c, sm))) $$ Hv with ⟨%γ, %δ, %κ, #Hinv, Hγ, Hδ⟩
  iapply (wp_enqueueDmaAs 𝒱 c bd Set.univ (via := .same) ι N hN) $$ [Hs Hl Hδ₀ Hrest] [Hγ]
  · isplitl [Hs]; · iexact Hs
    iapply (writeUpdate_frame c)
    isplitl [Hl Hδ₀]
    · iapply (shared_writeUpdate EC c hSd (κ := κ₀) (γ := γ₀))
      isplitr; · iexact Hsh
      isplitl [Hl] <;> iassumption
    · iexact Hrest
  · iapply (flight_creditUpdate EC (δ := δ))
    isplitr; · iexact Hinv
    iexact Hγ
  iintro Hcred
  iapply Hk
  unfold Flying
  iexists γ₀, δ₀, κ₀
  isplitr; · iexact Hsh
  isplitl [Hγ₀]; · iexact Hγ₀
  iapply (Flight_mono EC c (D := iprop((((dst.view.loc c ↦[Sd]{fullShare.left} (dst.view.write Val fd (src.view.read Val fs) Finset.univ)) ∗ tok EC δ₀)
        ∗ (src.view.loc c ↦[Finset.univ \ src.view.set]{q} fs))
      ∗ (src.view.loc c ↦[src.view.set]{q} fs))))
  · rw [pointsTo_congr (q := fullShare.left) hg]
    iintro ⟨⟨⟨Hl, Hδ⟩, Hrest⟩, Hs⟩
    isplitl [Hl Hδ]
    · isplitl [Hl] <;> iassumption
    iapply (pointsTo_split_subset (ℓ := src.view.loc c) (S := Finset.univ) (I := src.view.set) (Finset.subset_univ _)).2
    isplitl [Hs] <;> iassumption
  iapply (flight_intro EC c (κ := κ))
  isplitr; · iexact Hinv
  isplitl [Hδ] <;> iassumption

/-- Both tokens buy the shared half back, the invariant left closed for good. -/
theorem shareBody_collect [EC.LandsIn (upEmb : UEmb _ 𝕄)] {ℓ : Loc nD τ sig} {S : Finset (Idx ℓ)} {γ δ : ℕ} {κ : Name} :
    iprop(inv κ (shareBody EC ℓ S γ δ) ∗ tok EC γ ∗ tok EC δ) ⊢ (|={Set.univ}=> iprop(∃ g, ℓ ↦[S]{fullShare.right} g) : sProp 𝕄) := by
  iintro ⟨Hinv, Hγ, Hδ⟩
  imod (inv_acc (Set.mem_univ κ)) $$ Hinv with ⟨Hb, Hclose⟩
  unfold shareBody
  icases Hb with (⟨%g', Hg⟩ | ⟨-, Hδ'⟩)
  · ihave Hc := Hclose $$ [Hγ Hδ]
    · iright; isplitl [Hγ] <;> iassumption
    imod Hc
    imodintro
    iexists g'; iexact Hg
  · iexfalso; iapply (tok_tok_false EC δ); isplitl [Hδ] <;> iassumption

/-- WAIT: the destination's elements come back whole at the landed contents, the cell at zero, and `R`. -/
theorem wp_finish [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N)
    {ℓ : Loc nD τ sig} {S : Finset (Idx ℓ)} {g : Buf Val ℓ} {R : sProp 𝕄} {W : Waits sig Ix} :
    iprop(Flying EC c (.dma sem) ι N ℓ S g R ∗ owes c 0 W)
      ⊢ iprop((iprop((ℓ ↦[S]{fullShare} g) ∗ R ∗ semVal (c, .dma sem) 0 ∗ owes c 0 (insert (SemLoc.dma sem, ι) W))
            -∗ wp frame (wpE defs 𝒱 c bd) Set.univ (k ⟨⟩) Q)
          -∗ wp frame (wpE defs 𝒱 c bd) Set.univ (.op (.waitDma2 sem srcw dstw hsrc hdst) k) Q) := by
  unfold Flying
  iintro ⟨⟨%γ, %δ, %κ, Hinv, Hγ, Hf⟩, HO⟩ Hk
  iapply (wp_waitLocal EC 𝒱 c bd ι hN) $$ [Hf HO]
  · isplitl [Hf] <;> iassumption
  iintro ⟨⟨⟨Hl, Hδ⟩, HR⟩, Hv, HO⟩
  imod (shareBody_collect EC (ℓ := ℓ) (S := S) (γ := γ) (δ := δ) (κ := κ)) $$ [Hinv Hγ Hδ] with ⟨%g', Hg⟩
  · isplitl [Hinv]; · iexact Hinv
    isplitl [Hγ] <;> iassumption
  ihave Hw := (pointsTo_rejoin (ℓ := ℓ) (S := S)) $$ [Hl Hg]
  · isplitl [Hl] <;> iassumption
  iapply Hk
  isplitl [Hw]; · iexact Hw
  isplitl [HR]; · iexact HR
  isplitl [Hv] <;> iassumption

/-- A load of elements a transfer in flight is writing: it returns something. -/
theorem wp_peek [EC.LandsIn (upEmb : UEmb _ 𝕄)] {cs : CoreSpace} {m : Memref sig c.2.kind cs s e} {r : LoadRect s} {hl : m.view.LoadsAt r}
    {k : (r.shape.Idx → Val e) → Prog (TpuEff nD τ sig Val Λ c.2) α} {sm : SemLoc sig} {ι : Ix} {N : ℕ}
    {S : Finset (Idx (m.view.loc c))} {g : Buf Val (m.view.loc c)} {R : sProp 𝕄} (hS : m.view.setOn r.set ⊆ S) :
    Flying EC c sm ι N (m.view.loc c) S g R
      ⊢ iprop((∀ v, Flying EC c sm ι N (m.view.loc c) S g R -∗ wp frame (wpE defs 𝒱 c bd) Set.univ (k v) Q)
          -∗ wp frame (wpE defs 𝒱 c bd) Set.univ (.op (.load m r hl) k) Q) := by
  unfold Flying
  iintro ⟨%γ, %δ, %κ, #Hinv, Hγ, Hf⟩ Hk
  iapply (wp_atomically 𝒱 c bd Set.univ)
  imod (inv_acc (Set.mem_univ κ)) $$ Hinv with ⟨Hb, Hclose⟩
  unfold shareBody
  icases Hb with (⟨%g', Hg⟩ | ⟨Hγ', -⟩)
  · imodintro
    iapply (fp_load c hS) $$ Hg
    iintro Hg
    ihave Hc := Hclose $$ [Hg]
    · ileft; iexists _; iexact Hg
    imod Hc
    imodintro
    iapply Hk
    iexists γ, δ, κ
    isplitr; · iexact Hinv
    isplitl [Hγ] <;> iassumption
  · iexfalso; iapply (tok_tok_false EC γ); isplitl [Hγ] <;> iassumption

end Cert.Racy
-- ==== Proof.KernelIdeal.Slots.lean ====
/-
  The slab the kernel fills by transfers of its own: its twenty regions, what each holds once a transfer has landed, and
  the steps of the body that touch it — a transfer started, a transfer waited for, a region loaded.
-/
module

public import proofs.«01_k».proof.Proof.Racy
public import proofs.«01_k».proof.Proof.Gen.KernelIdeal.Frame
public import Idealize.ShloMosaic.Lib.ValueLayout
public import Idealize.ShloMosaic.Lib.ViewIndex
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- The transfers' counters in the proof's algebra. -/
abbrev EC : UEmb Counters 𝕄 := countersEmb (U := Pipeline.UD sig nD τ)

/-! ## The slab, its regions, the source rows -/

/-- The slab: two slots of ten regions of 1600 rows. -/
abbrev slabM : Memref sig .tc .vmem S2x16000x128 .f32 := Memref.whole cc0_scratch0
/-- The second neighbours' features, left in HBM. -/
abbrev hbmM : Memref sig .tc .hbm S51200x10x128 .f32 := Memref.whole main_arg2

/-- A transfer's destination, as the body names it. -/
abbrev dstM (o : Fin 3 → ℕ) (h : ∀ a, o a + S1x1600x128.size a ≤ S2x16000x128.size a) : Memref sig .tc .vmem S1600x128 .f32 :=
  (slabM.slice (Rect.unit (s := S2x16000x128) o S1x1600x128.size h) (fun _ => rfl)).squeeze S1600x128 squeezes_S1x1600x128_S1600x128
/-- A transfer's source, as the body names it. -/
abbrev srcM (o : Fin 3 → ℕ) (h : ∀ a, o a + S1600x1x128.size a ≤ S51200x10x128.size a) : Memref sig .tc .hbm S1600x128 .f32 :=
  (hbmM.slice (Rect.unit (s := S51200x10x128) o S1600x1x128.size h) (fun _ => rfl)).squeeze S1600x128 squeezes_S1600x1x128_S1600x128
/-- A transfer's semaphore, as the body names it. -/
abbrev semM (o : Fin 2 → ℕ) (h : ∀ a, o a + S1x1.size a ≤ S2x10.size a) : DmaSems sig S_ :=
  (cc0_scratch1.slice (Rect.unit (s := S2x10) o S1x1.size h)).squeeze S_ squeezes_S1x1_S_

/-- The cell of slot `σ`, second neighbour `s`. -/
abbrev cellIx (σ : Fin 2) (s : Fin 10) : DmaSem sig := ⟨18 + (10 * σ.val + s.val), by have := σ.isLt; have := s.isLt; show _ < 38; omega⟩

/-- The semaphore at offsets `(σ, s)` is the cell of slot `σ`, second neighbour `s`. -/
theorem semM_sem (σ : Fin 2) (s : Fin 10) (h : ∀ a, (![σ.val, s.val] : Fin 2 → ℕ) a + S1x1.size a ≤ S2x10.size a) :
    (semM ![σ.val, s.val] h).sem = cellIx σ s := by
  revert s σ
  decide +kernel

/-- The slot the point `n` fills. -/
abbrev slotOf (n : ℕ) : Fin 2 := ⟨n % 2, Nat.mod_lt _ (by decide)⟩

/-- The elements of the slab that slot `σ`, second neighbour `s` owns. -/
def reg (σ : Fin 2) (s : Fin 10) : Finset S2x16000x128.Idx :=
  Finset.univ.filter fun x => (x 0).val = σ.val ∧ (x 1).val / 1600 = s.val

theorem mem_reg {σ : Fin 2} {s : Fin 10} {x : S2x16000x128.Idx} : x ∈ reg σ s ↔ (x 0).val = σ.val ∧ (x 1).val / 1600 = s.val := by
  simp [reg]

/-- What a slot holds once the ten transfers started at point `t` have landed. -/
def land (c : Dev nD) (t : ℕ) : S2x16000x128.Idx → Elt F .f32 := fun x =>
  V m c main_arg2 (ix3 (⟨(1600 * t + (x 1).val % 1600) % 51200, Nat.mod_lt _ (by decide)⟩ : Fin 51200)
    (⟨(x 1).val / 1600, by have := (x 1).isLt; change _ < 16000 at this; omega⟩ : Fin 10) (⟨(x 2).val, (x 2).isLt⟩ : Fin 128))

/-- The part of it that a load of second neighbour `s`'s region reads. -/
def part (c : Dev nD) (t : ℕ) (s : Fin 10) : Vec F S1x1600x128 .f32 := fun y =>
  V m c main_arg2 (ix3 (⟨(1600 * t + (y 1).val) % 51200, Nat.mod_lt _ (by decide)⟩ : Fin 51200) s (⟨(y 2).val, (y 2).isLt⟩ : Fin 128))

/-- Where the destination's index `(a, b)` lies in the slab. -/
theorem dstM_emb (o : Fin 3 → ℕ) (h : ∀ a, o a + S1x1600x128.size a ≤ S2x16000x128.size a) (a : Fin 1600) (b : Fin 128) :
    ((dstM o h).view.emb (ix2 a b) 0).val = o 0 ∧ ((dstM o h).view.emb (ix2 a b) 1).val = o 1 + a.val
      ∧ ((dstM o h).view.emb (ix2 a b) 2).val = o 2 + b.val := by
  have e : Shape.reshapeEquiv squeezes_S1x1600x128_S1600x128.numel_eq (ix2 a b) = ix3 (⟨0, Nat.one_pos⟩ : Fin 1) a b := reshapeEquiv_ix2_1ab _ a b
  have e' : (dstM o h).view.emb (ix2 a b) = (Rect.unit (s := S2x16000x128) o S1x1600x128.size h).emb (ix3 (⟨0, Nat.one_pos⟩ : Fin 1) a b) := by
    rw [← e]; rfl
  rw [e']
  refine ⟨?_, ?_, ?_⟩
  · show o 0 + 1 * 0 = _; omega
  · show o 1 + 1 * a.val = _; omega
  · show o 2 + 1 * b.val = _; omega

/-- Where the source's index `(a, b)` lies in the features. -/
theorem srcM_emb (o : Fin 3 → ℕ) (h : ∀ a, o a + S1600x1x128.size a ≤ S51200x10x128.size a) (a : Fin 1600) (b : Fin 128) :
    ((srcM o h).view.emb (ix2 a b) 0).val = o 0 + a.val ∧ ((srcM o h).view.emb (ix2 a b) 1).val = o 1
      ∧ ((srcM o h).view.emb (ix2 a b) 2).val = o 2 + b.val := by
  have e : Shape.reshapeEquiv squeezes_S1600x1x128_S1600x128.numel_eq (ix2 a b) = ix3 a (⟨0, Nat.one_pos⟩ : Fin 1) b :=
    Shape.reshapeEquiv_eq_of_rowMajor _ (by
      rw [Shape.rowMajor_val_three, Shape.rowMajor_val_two]
      show ((a.val * 1 + 0) * 128 + b.val) = a.val * 128 + b.val
      omega)
  have e' : (srcM o h).view.emb (ix2 a b) = (Rect.unit (s := S51200x10x128) o S1600x1x128.size h).emb (ix3 a (⟨0, Nat.one_pos⟩ : Fin 1) b) := by
    rw [← e]; rfl
  rw [e']
  refine ⟨?_, ?_, ?_⟩
  · show o 0 + 1 * a.val = _; omega
  · show o 1 + 1 * 0 = _; omega
  · show o 2 + 1 * b.val = _; omega

/-- A transfer's destination lies in its region. -/
theorem dstM_sub (σ : Fin 2) (s : Fin 10) (o : Fin 3 → ℕ) (ho : o = ![σ.val, 1600 * s.val, 0])
    (h : ∀ a, o a + S1x1600x128.size a ≤ S2x16000x128.size a) : ((dstM o h).view.set : Finset S2x16000x128.Idx) ⊆ reg σ s := by
  intro x hx
  obtain ⟨y, -, rfl⟩ := Finset.mem_map.mp hx
  obtain ⟨a, b, rfl⟩ : ∃ a b, y = ix2 (n0 := 1600) (n1 := 128) a b := ⟨y 0, y 1, funext fun | ⟨0, _⟩ => rfl | ⟨1, _⟩ => rfl⟩
  obtain ⟨h0, h1, h2⟩ := dstM_emb o h a b
  subst ho
  refine mem_reg.mpr ⟨h0, ?_⟩
  rw [h1]
  show (1600 * s.val + a.val) / 1600 = _
  have := a.isLt; omega

/-- What lands, on the region, is what `land` says. -/
theorem write_eq_land (c : Dev nD) (σ : Fin 2) (s : Fin 10) (t : ℕ) (ht : t < 32) (o o' : Fin 3 → ℕ) (ho : o = ![σ.val, 1600 * s.val, 0])
    (ho' : o' = ![1600 * t, s.val, 0])
    (h : ∀ a, o a + S1x1600x128.size a ≤ S2x16000x128.size a) (h' : ∀ a, o' a + S1600x1x128.size a ≤ S51200x10x128.size a)
    (fd : S2x16000x128.Idx → Elt F .f32) (i : S2x16000x128.Idx) (hi : i ∈ reg σ s) :
    (dstM o h).view.write (Elt F) fd ((srcM o' h').view.read (Elt F) (V m c main_arg2)) Finset.univ i = land m c t i := by
  obtain ⟨i0, i1⟩ := mem_reg.mp hi
  have l1 : (i 1).val < 16000 := (i 1).isLt
  have l2 : (i 2).val < 128 := (i 2).isLt
  let a : Fin 1600 := ⟨(i 1).val % 1600, Nat.mod_lt _ (by decide)⟩
  let b : Fin 128 := ⟨(i 2).val, l2⟩
  obtain ⟨h0, h1, h2⟩ := dstM_emb o h a b
  obtain ⟨g0, g1, g2⟩ := srcM_emb o' h' a b
  subst ho; subst ho'
  have ei : (dstM _ h).view.emb (ix2 a b) = i := by
    refine Shape.idx3_ext ?_ ?_ ?_
    · rw [h0, i0]; rfl
    · rw [h1]; show 1600 * s.val + (i 1).val % 1600 = _; omega
    · rw [h2]; show 0 + (i 2).val = _; omega
  conv_lhs => rw [← ei]
  refine (View.write_emb_of_mem _ _ (Finset.mem_univ _)).trans ?_
  show (srcM _ h').view.read (Elt F) (V m c main_arg2) (ix2 a b) = _
  rw [View.read_apply]
  show V m c main_arg2 ((srcM _ h').view.emb (ix2 a b)) = _
  unfold land
  refine congrArg (V m c main_arg2) (Shape.idx3_ext ?_ ?_ ?_)
  · rw [g0]; show 1600 * t + (i 1).val % 1600 = (1600 * t + (i 1).val % 1600) % 51200; omega
  · rw [g1]; exact i1.symm
  · rw [g2]; show 0 + (i 2).val = _; exact Nat.zero_add _

/-- The elements a load of the region reads lie in the region. -/
theorem load_sub (σ : Fin 2) (s : Fin 10) (o : Fin 3 → ℕ) (ho : o = ![σ.val, 1600 * s.val, 0])
    (h : ∀ a, o a + S1x1600x128.size a ≤ S2x16000x128.size a) :
    (slabM.view.setOn (Rect.unit (s := S2x16000x128) o S1x1600x128.size h).toLoadRect.set : Finset S2x16000x128.Idx) ⊆ reg σ s := by
  intro x hx
  refine dstM_sub σ s o ho h ?_
  rw [show ((dstM o h).view.set : Finset S2x16000x128.Idx) = (slabM.view.slice (Rect.unit (s := S2x16000x128) o S1x1600x128.size h)).set from
    View.set_reshape _ _, View.set_slice]
  exact hx

/-- What it reads of the landed contents. -/
theorem load_land (c : Dev nD) (σ : Fin 2) (s : Fin 10) (t : ℕ) (o : Fin 3 → ℕ) (ho : o = ![σ.val, 1600 * s.val, 0])
    (h : ∀ a, o a + S1x1600x128.size a ≤ S2x16000x128.size a) :
    slabM.view.readAt (Elt F) (Rect.unit (s := S2x16000x128) o S1x1600x128.size h).toLoadRect (land m c t) = part m c t s := by
  subst ho
  funext y
  have hy : (y 1).val < 1600 := (y 1).isLt
  show land m c t ((Rect.unit (s := S2x16000x128) _ S1x1600x128.size h).emb y) = _
  unfold land part
  refine congrArg (V m c main_arg2) (Shape.idx3_ext ?_ ?_ ?_)
  · show (1600 * t + (1600 * s.val + 1 * (y 1).val) % 1600) % 51200 = (1600 * t + (y 1).val) % 51200
    congr 2; omega
  · show (1600 * s.val + 1 * (y 1).val) / 1600 = s.val; omega
  · show 0 + 1 * (y 2).val = (y 2).val; omega

/-! ## What the core holds of a region -/

/-- What is left of the whole after `k` cuts, and the `k`-th piece cut off: the shares of the features the transfers take. -/
def restShare : ℕ → PosShare TreeShare
  | 0 => fullShare
  | k + 1 => (restShare k).right
def pieceShare (k : ℕ) : PosShare TreeShare := (restShare k).left
abbrev q (σ : Fin 2) (s : Fin 10) : PosShare TreeShare := pieceShare (10 * σ.val + s.val)

/-- The share of the features that goes with slot `σ`, second neighbour `s`. -/
def srcPt (c : Dev nD) (σ : Fin 2) (s : Fin 10) : sProp 𝕄 := hbmM.view.loc (c : Thread nD τ) ↦{q σ s} V m c main_arg2
/-- Region `(σ, s)` of the slab, whole, holding `g` there. -/
def regPt (c : Dev nD) (σ : Fin 2) (s : Fin 10) (g : S2x16000x128.Idx → Elt F .f32) : sProp 𝕄 :=
  slabM.view.loc (c : Thread nD τ) ↦[reg σ s]{fullShare} g
/-- The cell of `(σ, s)` at zero. -/
def semPt (c : Dev nD) (σ : Fin 2) (s : Fin 10) : sProp 𝕄 := semVal ((c : Thread nD τ), SemLoc.dma (cellIx σ s)) 0

/-- A region with no transfer in flight, holding anything. -/
def Free (c : Dev nD) (σ : Fin 2) (s : Fin 10) : sProp 𝕄 := iprop(srcPt m c σ s ∗ (∃ g, regPt c σ s g) ∗ semPt (F := F) c σ s)
/-- A region with no transfer in flight, holding what point `t` brought. -/
def Landed (c : Dev nD) (t : ℕ) (σ : Fin 2) (s : Fin 10) : sProp 𝕄 := iprop(srcPt m c σ s ∗ regPt c σ s (land m c t) ∗ semPt (F := F) c σ s)
/-- The amount a transfer credits. -/
def amt : ℕ := (dstM ![0, 0, 0] (by decide)).view.dmaCredit
/-- A region point `t`'s transfer is filling. -/
def Fly (c : Dev nD) (t : ℕ) (σ : Fin 2) (s : Fin 10) : sProp 𝕄 :=
  Racy.Flying EC (c : Thread nD τ) (SemLoc.dma (cellIx σ s)) () amt (slabM.view.loc (c : Thread nD τ)) (reg σ s) (land m c t) (srcPt m c σ s)

theorem Landed_free (c : Dev nD) (t : ℕ) (σ : Fin 2) (s : Fin 10) : Landed m c t σ s ⊢ Free m c σ s := by
  unfold Landed Free
  iintro ⟨H1, H2, H3⟩
  isplitl [H1]; · iexact H1
  isplitl [H2]; · iexists _; iexact H2
  iexact H3

variable (c : Dev nD) {α : Type} (Q : α → sProp (MT nD τ sig Unit (Elt F) ℕ (Pipeline.UD sig nD τ) ℕ))

/-- A transfer started. -/
theorem start_at (σ : Fin 2) (s : Fin 10) (t : ℕ) (ht : t < 32) (o1 : Fin 2 → ℕ) (o2 o3 : Fin 3 → ℕ)
    (e1 : o1 = ![σ.val, s.val]) (e2 : o2 = ![σ.val, 1600 * s.val, 0]) (e3 : o3 = ![1600 * t, s.val, 0])
    {h1 : ∀ a, o1 a + S1x1.size a ≤ S2x10.size a} {h2 : ∀ a, o2 a + S1x1600x128.size a ≤ S2x16000x128.size a}
    {h3 : ∀ a, o3 a + S1600x1x128.size a ≤ S51200x10x128.size a} {p1 p2 p3} {k : PUnit → Prog (TpuEff nD τ sig (Elt F) Λ₀ .tc) α} :
    Free m c σ s ⊢ iprop((Fly m c t σ s -∗ wp frame (wpE (defs₀ (F := F)) Variants.none (c : Thread nD τ) none) Set.univ (k ⟨⟩) Q)
      -∗ wp frame (wpE (defs₀ (F := F)) Variants.none (c : Thread nD τ) none) Set.univ
          (.op (.enqueueDma (srcM o3 h3) (.here (dstM o2 h2)) (.dma (semM o1 h1).sem) p1 p2 p3) k) Q) := by
  subst e1
  revert p3
  rw [semM_sem]
  intro p3
  unfold Free
  iintro ⟨H1, ⟨%g, H2⟩, H3⟩ Hk
  unfold srcPt regPt semPt
  iapply (Racy.wp_start EC Variants.none (c : Thread nD τ) none (src := srcM o3 h3) (dst := dstM o2 h2) (hsrc := p1) (hdst := p2) (hsem := p3) () amt rfl (View.dmaCredit_pos _ (by decide)) (dstM_sub σ s o2 e2 h2) (land m c t)
    (fun i hi => write_eq_land m c σ s t ht o2 o3 e2 e3 h2 h3 g i hi)) $$ [H1 H2 H3]
  · isplitl [H1]; · iexact H1
    isplitl [H2]; · iexact H2
    iexact H3
  iintro Hf
  iapply Hk
  unfold Fly srcPt
  iexact Hf

/-- A transfer waited for. -/
theorem finish_at (σ : Fin 2) (s : Fin 10) (t : ℕ) (o1 : Fin 2 → ℕ) (o2 o3 : Fin 3 → ℕ) (e1 : o1 = ![σ.val, s.val])
    {h1 : ∀ a, o1 a + S1x1.size a ≤ S2x10.size a} {h2 : ∀ a, o2 a + S1x1600x128.size a ≤ S2x16000x128.size a}
    {h3 : ∀ a, o3 a + S1600x1x128.size a ≤ S51200x10x128.size a} {p1 p2} {k : PUnit → Prog (TpuEff nD τ sig (Elt F) Λ₀ .tc) α} :
    iprop(Fly m c t σ s ∗ (∃ W, owes (c : Thread nD τ) 0 W))
      ⊢ iprop((iprop(Landed m c t σ s ∗ (∃ W, owes (c : Thread nD τ) 0 W)) -∗ wp frame (wpE (defs₀ (F := F)) Variants.none (c : Thread nD τ) none) Set.univ (k ⟨⟩) Q)
      -∗ wp frame (wpE (defs₀ (F := F)) Variants.none (c : Thread nD τ) none) Set.univ
          (.op (.waitDma2 (semM o1 h1).sem (srcM o3 h3) (dstM o2 h2) p1 p2) k) Q) := by
  subst e1
  rw [semM_sem]
  unfold Fly
  iintro ⟨H1, ⟨%W, HW⟩⟩ Hk
  iapply (Racy.wp_finish EC Variants.none (c : Thread nD τ) none (srcw := srcM o3 h3) (dstw := dstM o2 h2) (hsrc := p1) (hdst := p2) () (N := amt) rfl) $$ [H1 HW]
  · isplitl [H1]; · iexact H1
    iexact HW
  iintro ⟨H1, H2, H3, HW⟩
  iapply Hk
  isplitl [H1 H2 H3]
  · unfold Landed regPt semPt
    isplitl [H2]; · iexact H2
    isplitl [H1]; · iexact H1
    iexact H3
  iexists _; iexact HW

/-- What a load of region `(σ, s)` meets at point `t`: at point 0 a transfer in flight, later what the point before brought. -/
def Up (t : ℕ) (σ : Fin 2) (s : Fin 10) : sProp 𝕄 := if t = 0 then Fly m c 0 σ s else Landed m c (t - 1) σ s
/-- What it returns: at point 0 anything. -/
def Good (t : ℕ) (s : Fin 10) (v : Vec F S1x1600x128 .f32) : Prop := t ≠ 0 → v = part m c (t - 1) s

/-- A region loaded. -/
theorem load_at (σ : Fin 2) (s : Fin 10) (t : ℕ) (o : Fin 3 → ℕ) (e : o = ![σ.val, 1600 * s.val, 0])
    {h : ∀ a, o a + S1x1600x128.size a ≤ S2x16000x128.size a} {hl}
    {k : Vec F S1x1600x128 .f32 → Prog (TpuEff nD τ sig (Elt F) Λ₀ .tc) α} :
    Up m c t σ s ⊢ iprop((∀ v, ⌜Good m c t s v⌝ -∗ Up m c t σ s -∗ wp frame (wpE (defs₀ (F := F)) Variants.none (c : Thread nD τ) none) Set.univ (k v) Q)
      -∗ wp frame (wpE (defs₀ (F := F)) Variants.none (c : Thread nD τ) none) Set.univ
          (.op (.load slabM (Rect.unit (s := S2x16000x128) o S1x1600x128.size h).toLoadRect hl) k) Q) := by
  by_cases h0 : t = 0
  · rw [show Up m c t σ s = Fly m c 0 σ s from if_pos h0]
    unfold Fly
    iintro H Hk
    iapply (Racy.wp_peek EC Variants.none (c : Thread nD τ) none (load_sub σ s o e h)) $$ H
    iintro %v H
    iapply Hk $$ %v [] H
    ipureintro; exact fun h => absurd h0 h
  · rw [show Up m c t σ s = Landed m c (t - 1) σ s from if_neg h0]
    unfold Landed regPt
    iintro ⟨H1, H2, H3⟩ Hk
    iapply (wp_load Variants.none (c : Thread nD τ) none Set.univ (load_sub σ s o e h)) $$ H2
    iintro H2
    iapply Hk $$ %_ [] [H1 H2 H3]
    · ipureintro; exact fun _ => load_land m c σ s (t - 1) o e h
    · isplitl [H1]; · iexact H1
      isplitl [H2]; · iexact H2
      iexact H3

end Cert.KernelIdeal.Hand

end
-- ==== Proof.KernelIdeal.Offsets.lean ====
/-
  The offsets the body computes from its grid coordinate, in closed form: which cell, which rows of the slab and which
  rows of the features each transfer, wait and load names.
-/
module

public import proofs.«01_k».proof.Proof.KernelIdeal.Slots

@[expose] public section

noncomputable section

namespace Cert.KernelIdeal.Hand

open Cert.KernelIdeal Cert.KernelIdeal.Gen
open Idealize.ShloMosaic

theorem start_cell0 : ∀ i : grid0.Coords, k0_off1 i = ![(slotOf (i 0).val).val, (⟨0, by decide⟩ : Fin 10).val] := by decide +kernel
theorem start_dst0 : ∀ i : grid0.Coords, k0_off2 i = ![(slotOf (i 0).val).val, 1600 * (⟨0, by decide⟩ : Fin 10).val, 0] := by decide +kernel
theorem start_src0 : ∀ i : grid0.Coords, k0_off3 i = ![1600 * (i 0).val, (⟨0, by decide⟩ : Fin 10).val, 0] := by decide +kernel
theorem start_cell1 : ∀ i : grid0.Coords, k0_off4 i = ![(slotOf (i 0).val).val, (⟨1, by decide⟩ : Fin 10).val] := by decide +kernel
theorem start_dst1 : ∀ i : grid0.Coords, k0_off5 i = ![(slotOf (i 0).val).val, 1600 * (⟨1, by decide⟩ : Fin 10).val, 0] := by decide +kernel
theorem start_src1 : ∀ i : grid0.Coords, k0_off6 i = ![1600 * (i 0).val, (⟨1, by decide⟩ : Fin 10).val, 0] := by decide +kernel
theorem start_cell2 : ∀ i : grid0.Coords, k0_off7 i = ![(slotOf (i 0).val).val, (⟨2, by decide⟩ : Fin 10).val] := by decide +kernel
theorem start_dst2 : ∀ i : grid0.Coords, k0_off8 i = ![(slotOf (i 0).val).val, 1600 * (⟨2, by decide⟩ : Fin 10).val, 0] := by decide +kernel
theorem start_src2 : ∀ i : grid0.Coords, k0_off9 i = ![1600 * (i 0).val, (⟨2, by decide⟩ : Fin 10).val, 0] := by decide +kernel
theorem start_cell3 : ∀ i : grid0.Coords, k0_off10 i = ![(slotOf (i 0).val).val, (⟨3, by decide⟩ : Fin 10).val] := by decide +kernel
theorem start_dst3 : ∀ i : grid0.Coords, k0_off11 i = ![(slotOf (i 0).val).val, 1600 * (⟨3, by decide⟩ : Fin 10).val, 0] := by decide +kernel
theorem start_src3 : ∀ i : grid0.Coords, k0_off12 i = ![1600 * (i 0).val, (⟨3, by decide⟩ : Fin 10).val, 0] := by decide +kernel
theorem start_cell4 : ∀ i : grid0.Coords, k0_off13 i = ![(slotOf (i 0).val).val, (⟨4, by decide⟩ : Fin 10).val] := by decide +kernel
theorem start_dst4 : ∀ i : grid0.Coords, k0_off14 i = ![(slotOf (i 0).val).val, 1600 * (⟨4, by decide⟩ : Fin 10).val, 0] := by decide +kernel
theorem start_src4 : ∀ i : grid0.Coords, k0_off15 i = ![1600 * (i 0).val, (⟨4, by decide⟩ : Fin 10).val, 0] := by decide +kernel
theorem start_cell5 : ∀ i : grid0.Coords, k0_off16 i = ![(slotOf (i 0).val).val, (⟨5, by decide⟩ : Fin 10).val] := by decide +kernel
theorem start_dst5 : ∀ i : grid0.Coords, k0_off17 i = ![(slotOf (i 0).val).val, 1600 * (⟨5, by decide⟩ : Fin 10).val, 0] := by decide +kernel
theorem start_src5 : ∀ i : grid0.Coords, k0_off18 i = ![1600 * (i 0).val, (⟨5, by decide⟩ : Fin 10).val, 0] := by decide +kernel
theorem start_cell6 : ∀ i : grid0.Coords, k0_off19 i = ![(slotOf (i 0).val).val, (⟨6, by decide⟩ : Fin 10).val] := by decide +kernel
theorem start_dst6 : ∀ i : grid0.Coords, k0_off20 i = ![(slotOf (i 0).val).val, 1600 * (⟨6, by decide⟩ : Fin 10).val, 0] := by decide +kernel
theorem start_src6 : ∀ i : grid0.Coords, k0_off21 i = ![1600 * (i 0).val, (⟨6, by decide⟩ : Fin 10).val, 0] := by decide +kernel
theorem start_cell7 : ∀ i : grid0.Coords, k0_off22 i = ![(slotOf (i 0).val).val, (⟨7, by decide⟩ : Fin 10).val] := by decide +kernel
theorem start_dst7 : ∀ i : grid0.Coords, k0_off23 i = ![(slotOf (i 0).val).val, 1600 * (⟨7, by decide⟩ : Fin 10).val, 0] := by decide +kernel
theorem start_src7 : ∀ i : grid0.Coords, k0_off24 i = ![1600 * (i 0).val, (⟨7, by decide⟩ : Fin 10).val, 0] := by decide +kernel
theorem start_cell8 : ∀ i : grid0.Coords, k0_off25 i = ![(slotOf (i 0).val).val, (⟨8, by decide⟩ : Fin 10).val] := by decide +kernel
theorem start_dst8 : ∀ i : grid0.Coords, k0_off26 i = ![(slotOf (i 0).val).val, 1600 * (⟨8, by decide⟩ : Fin 10).val, 0] := by decide +kernel
theorem start_src8 : ∀ i : grid0.Coords, k0_off27 i = ![1600 * (i 0).val, (⟨8, by decide⟩ : Fin 10).val, 0] := by decide +kernel
theorem start_cell9 : ∀ i : grid0.Coords, k0_off28 i = ![(slotOf (i 0).val).val, (⟨9, by decide⟩ : Fin 10).val] := by decide +kernel
theorem start_dst9 : ∀ i : grid0.Coords, k0_off29 i = ![(slotOf (i 0).val).val, 1600 * (⟨9, by decide⟩ : Fin 10).val, 0] := by decide +kernel
theorem start_src9 : ∀ i : grid0.Coords, k0_off30 i = ![1600 * (i 0).val, (⟨9, by decide⟩ : Fin 10).val, 0] := by decide +kernel
theorem wait_cell0 : ∀ i : grid0.Coords, (i 0).val ≠ 0 → k0_off31 i = ![(slotOf ((i 0).val - 1)).val, (⟨0, by decide⟩ : Fin 10).val] := by decide +kernel
theorem wait_cell1 : ∀ i : grid0.Coords, (i 0).val ≠ 0 → k0_off34 i = ![(slotOf ((i 0).val - 1)).val, (⟨1, by decide⟩ : Fin 10).val] := by decide +kernel
theorem wait_cell2 : ∀ i : grid0.Coords, (i 0).val ≠ 0 → k0_off37 i = ![(slotOf ((i 0).val - 1)).val, (⟨2, by decide⟩ : Fin 10).val] := by decide +kernel
theorem wait_cell3 : ∀ i : grid0.Coords, (i 0).val ≠ 0 → k0_off40 i = ![(slotOf ((i 0).val - 1)).val, (⟨3, by decide⟩ : Fin 10).val] := by decide +kernel
theorem wait_cell4 : ∀ i : grid0.Coords, (i 0).val ≠ 0 → k0_off43 i = ![(slotOf ((i 0).val - 1)).val, (⟨4, by decide⟩ : Fin 10).val] := by decide +kernel
theorem wait_cell5 : ∀ i : grid0.Coords, (i 0).val ≠ 0 → k0_off46 i = ![(slotOf ((i 0).val - 1)).val, (⟨5, by decide⟩ : Fin 10).val] := by decide +kernel
theorem wait_cell6 : ∀ i : grid0.Coords, (i 0).val ≠ 0 → k0_off49 i = ![(slotOf ((i 0).val - 1)).val, (⟨6, by decide⟩ : Fin 10).val] := by decide +kernel
theorem wait_cell7 : ∀ i : grid0.Coords, (i 0).val ≠ 0 → k0_off52 i = ![(slotOf ((i 0).val - 1)).val, (⟨7, by decide⟩ : Fin 10).val] := by decide +kernel
theorem wait_cell8 : ∀ i : grid0.Coords, (i 0).val ≠ 0 → k0_off55 i = ![(slotOf ((i 0).val - 1)).val, (⟨8, by decide⟩ : Fin 10).val] := by decide +kernel
theorem wait_cell9 : ∀ i : grid0.Coords, (i 0).val ≠ 0 → k0_off58 i = ![(slotOf ((i 0).val - 1)).val, (⟨9, by decide⟩ : Fin 10).val] := by decide +kernel
theorem load_off0 : ∀ i : grid0.Coords, k0_off61 i = ![(slotOf ((i 0).val - 1)).val, 1600 * (⟨0, by decide⟩ : Fin 10).val, 0] := by decide +kernel
theorem load_off1 : ∀ i : grid0.Coords, k0_off62 i = ![(slotOf ((i 0).val - 1)).val, 1600 * (⟨1, by decide⟩ : Fin 10).val, 0] := by decide +kernel
theorem load_off2 : ∀ i : grid0.Coords, k0_off63 i = ![(slotOf ((i 0).val - 1)).val, 1600 * (⟨2, by decide⟩ : Fin 10).val, 0] := by decide +kernel
theorem load_off3 : ∀ i : grid0.Coords, k0_off64 i = ![(slotOf ((i 0).val - 1)).val, 1600 * (⟨3, by decide⟩ : Fin 10).val, 0] := by decide +kernel
theorem load_off4 : ∀ i : grid0.Coords, k0_off65 i = ![(slotOf ((i 0).val - 1)).val, 1600 * (⟨4, by decide⟩ : Fin 10).val, 0] := by decide +kernel
theorem load_off5 : ∀ i : grid0.Coords, k0_off66 i = ![(slotOf ((i 0).val - 1)).val, 1600 * (⟨5, by decide⟩ : Fin 10).val, 0] := by decide +kernel
theorem load_off6 : ∀ i : grid0.Coords, k0_off67 i = ![(slotOf ((i 0).val - 1)).val, 1600 * (⟨6, by decide⟩ : Fin 10).val, 0] := by decide +kernel
theorem load_off7 : ∀ i : grid0.Coords, k0_off68 i = ![(slotOf ((i 0).val - 1)).val, 1600 * (⟨7, by decide⟩ : Fin 10).val, 0] := by decide +kernel
theorem load_off8 : ∀ i : grid0.Coords, k0_off69 i = ![(slotOf ((i 0).val - 1)).val, 1600 * (⟨8, by decide⟩ : Fin 10).val, 0] := by decide +kernel
theorem load_off9 : ∀ i : grid0.Coords, k0_off70 i = ![(slotOf ((i 0).val - 1)).val, 1600 * (⟨9, by decide⟩ : Fin 10).val, 0] := by decide +kernel
theorem cond_start : ∀ i : grid0.Coords, k0_cond1 i = 1#1 ↔ (i 0).val < 32 := by decide +kernel
theorem cond_wait : ∀ i : grid0.Coords, k0_cond2 i = 1#1 ↔ (i 0).val ≠ 0 := by decide +kernel
theorem coords_val : ∀ t : Fin grid0.N, ((grid0.coords t) 0).val = t.val := by decide +kernel

end Cert.KernelIdeal.Hand

end
-- ==== Proof.KernelIdeal.Body.lean ====
/-
  The body at one grid point, by hand: it starts the ten transfers of its own row block, waits for the ten of the block
  before, loads the slot those filled and stores the block of results it computes. At the first point the slot it loads is
  still being filled, and what the loads deliver there is left open.
-/
module

public import proofs.«01_k».proof.Proof.KernelIdeal.Offsets
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (m : (ℓ : Loc nD τ sig) → Buf (Elt F) ℓ)

/-! ## Loading and storing a whole block -/

section Ops

variable (c : Dev nD) {α : Type} (Q : α → sProp (MT nD τ sig Unit (Elt F) ℕ (Pipeline.UD sig nD τ) ℕ))

/-- A load of a whole block held at known contents delivers those contents. -/
theorem load_win {sp : CoreSpace} {s : Shape} {e : EltTy} (M : Memref sig .tc sp s e) (X : s.Idx → Elt F e) {off : Fin s.rank → ℕ}
    {inb : ∀ a, off a + s.size a ≤ s.size a} {hl}
    {k : (s.Idx → Elt F e) → Prog (TpuEff nD τ sig (Elt F) Λ₀ .tc) α} :
    (owns (c : Thread nD τ) M fullShare X : sProp 𝕄) ⊢ iprop((owns (c : Thread nD τ) M fullShare X -∗ wp frame (wpE (defs₀ (F := F)) Variants.none (c : Thread nD τ) none) Set.univ (k X) Q)
      -∗ wp frame (wpE (defs₀ (F := F)) Variants.none (c : Thread nD τ) none) Set.univ (.op (.load M (Rect.unit (s := s) off s.size inb).toLoadRect hl) k) Q) := by
  unfold owns
  iintro ⟨%f, %hf, H⟩ Hk
  iapply (wp_load Variants.none (c : Thread nD τ) none Set.univ (View.setOn_subset_set _ _)) $$ H
  iintro H
  rw [View.readAt_full, hf]
  iapply Hk
  iexists f
  isplitr
  · ipureintro; exact hf
  · iexact H

/-- A load of a whole block held at something. -/
theorem load_any {sp : CoreSpace} {s : Shape} {e : EltTy} (M : Memref sig .tc sp s e) {off : Fin s.rank → ℕ}
    {inb : ∀ a, off a + s.size a ≤ s.size a} {hl}
    {k : (s.Idx → Elt F e) → Prog (TpuEff nD τ sig (Elt F) Λ₀ .tc) α} :
    (iprop(∃ X, owns (c : Thread nD τ) M fullShare X) : sProp 𝕄) ⊢ iprop((∀ X, (∃ X, owns (c : Thread nD τ) M fullShare X) -∗ wp frame (wpE (defs₀ (F := F)) Variants.none (c : Thread nD τ) none) Set.univ (k X) Q)
      -∗ wp frame (wpE (defs₀ (F := F)) Variants.none (c : Thread nD τ) none) Set.univ (.op (.load M (Rect.unit (s := s) off s.size inb).toLoadRect hl) k) Q) := by
  iintro ⟨%X, H⟩ Hk
  iapply (load_win c Q M X) $$ H
  iintro H
  iapply Hk $$ %X
  iexists X
  iexact H

/-- A store of a whole block, whatever it held, leaves the block at what was stored. -/
theorem store_win {sp : CoreSpace} {s : Shape} {e : EltTy} (M : Memref sig .tc sp s e) (w : s.Idx → Elt F e) {off : Fin s.rank → ℕ}
    {inb : ∀ a, off a + s.size a ≤ s.size a} {hx hm}
    {k : PUnit → Prog (TpuEff nD τ sig (Elt F) Λ₀ .tc) α} :
    (iprop(∃ X, owns (c : Thread nD τ) M fullShare X) : sProp 𝕄) ⊢ iprop((owns (c : Thread nD τ) M fullShare w -∗ wp frame (wpE (defs₀ (F := F)) Variants.none (c : Thread nD τ) none) Set.univ (k ⟨⟩) Q)
      -∗ wp frame (wpE (defs₀ (F := F)) Variants.none (c : Thread nD τ) none) Set.univ (.op (.store M (Rect.unit (s := s) off s.size inb) w Finset.univ hx hm) k) Q) := by
  unfold owns
  iintro ⟨%X, %f, %hf, H⟩ Hk
  iapply (wp_store (m := M) (r := Rect.unit (s := s) off s.size inb) (S := M.view.set) (f := f) Variants.none (c : Thread nD τ) none Set.univ (View.set_slice_subset M.view _)) $$ H
  iintro H
  iapply Hk
  iexists _
  isplitr
  · ipureintro; exact View.read_writes_full M.view f inb w []
  · iexact H

end Ops

/-! ## The state between the body's parts -/

/-- One thing for each of the ten second neighbours. -/
def ten (P : Fin 10 → sProp 𝕄) : sProp 𝕄 :=
  iprop(P ⟨0, by decide⟩ ∗ P ⟨1, by decide⟩ ∗ P ⟨2, by decide⟩ ∗ P ⟨3, by decide⟩ ∗ P ⟨4, by decide⟩
    ∗ P ⟨5, by decide⟩ ∗ P ⟨6, by decide⟩ ∗ P ⟨7, by decide⟩ ∗ P ⟨8, by decide⟩ ∗ P ⟨9, by decide⟩)

theorem ten_mono {P Q : Fin 10 → sProp 𝕄} (h : ∀ s, P s ⊢ Q s) : ten P ⊢ ten Q := by
  unfold ten
  iintro ⟨H0, H1, H2, H3, H4, H5, H6, H7, H8, H9⟩
  isplitl [H0]; · iapply (h _) $$ H0
  isplitl [H1]; · iapply (h _) $$ H1
  isplitl [H2]; · iapply (h _) $$ H2
  isplitl [H3]; · iapply (h _) $$ H3
  isplitl [H4]; · iapply (h _) $$ H4
  isplitl [H5]; · iapply (h _) $$ H5
  isplitl [H6]; · iapply (h _) $$ H6
  isplitl [H7]; · iapply (h _) $$ H7
  isplitl [H8]; · iapply (h _) $$ H8
  iapply (h _) $$ H9

/-- Before point `n`, the slot the point before filled is in flight (at the first point and after the last: free). -/
def Oth (c : Dev nD) (n : ℕ) : sProp 𝕄 :=
  if n = 0 then ten (Free m c 1) else if n ≤ 32 then ten (Fly m c (n - 1) (slotOf (n - 1))) else ten (Free m c (slotOf (n - 1)))
/-- Before point `n`: the slot it will fill is free, the other as `Oth` says. -/
def Bef (c : Dev nD) (n : ℕ) : sProp 𝕄 := iprop(ten (Free m c (slotOf n)) ∗ Oth m c n)
/-- The slot point `n` fills, once its transfers are started (the last point starts none). -/
def Sta (c : Dev nD) (n : ℕ) : sProp 𝕄 := if n < 32 then ten (Fly m c n (slotOf n)) else ten (Free m c (slotOf n))
/-- The other slot once the waits are done. -/
def Don (c : Dev nD) (n : ℕ) : sProp 𝕄 := if n = 0 then ten (Free m c 1) else ten (Landed m c (n - 1) (slotOf (n - 1)))
/-- The slot that is not loaded at point `n`. -/
def Side (c : Dev nD) (n : ℕ) : sProp 𝕄 := if n = 0 then ten (Free m c 1) else Sta m c n
/-- The slot that is loaded. -/
def Ups (c : Dev nD) (n : ℕ) : sProp 𝕄 := ten (Up m c n (slotOf (n - 1)))

theorem Oth_fly (c : Dev nD) (n : ℕ) (h0 : n ≠ 0) (h : n ≤ 32) : Oth m c n ⊢ ten (Fly m c (n - 1) (slotOf (n - 1))) := by
  unfold Oth; rw [if_neg h0, if_pos h]
theorem Oth_zero (c : Dev nD) (n : ℕ) (h0 : n = 0) : Oth m c n ⊢ Don m c n := by
  unfold Oth Don; rw [if_pos h0, if_pos h0]
theorem Sta_free (c : Dev nD) (n : ℕ) (h : ¬ n < 32) : ten (Free m c (slotOf n)) ⊢ Sta m c n := by
  unfold Sta; rw [if_neg h]

theorem toUps (c : Dev nD) (n : ℕ) : iprop(Sta m c n ∗ Don m c n) ⊢ iprop(Ups m c n ∗ Side m c n) := by
  by_cases h0 : n = 0
  · subst h0
    unfold Sta Don Ups Side Up
    rw [if_pos (by decide), if_pos rfl]
    exact BIClass.entails_refl _
  · unfold Don Ups Side
    rw [if_neg h0, if_neg h0, show (Up m c n (slotOf (n - 1))) = Landed m c (n - 1) (slotOf (n - 1)) from funext fun s => if_neg h0]
    iintro ⟨H1, H2⟩
    isplitl [H2]; · iexact H2
    iexact H1

theorem slotOf_succ (n : ℕ) (h : n ≠ 0) : slotOf (n - 1) = slotOf (n + 1) := Fin.ext (by show (n - 1) % 2 = (n + 1) % 2; omega)

theorem toBef (c : Dev nD) (n : ℕ) (hn : n < 33) : iprop(Ups m c n ∗ Side m c n) ⊢ Bef m c (n + 1) := by
  by_cases h0 : n = 0
  · subst h0
    unfold Ups Side Bef Oth Up
    rw [if_pos rfl, if_neg (by decide), if_pos (by decide)]
    iintro ⟨H1, H2⟩
    isplitl [H2]; · iexact H2
    iexact H1
  · unfold Ups Side Bef Oth Sta
    rw [if_neg h0, if_neg (Nat.succ_ne_zero n), show (Up m c n (slotOf (n - 1))) = Landed m c (n - 1) (slotOf (n - 1)) from funext fun s => if_neg h0,
      slotOf_succ n h0, Nat.add_sub_cancel]
    refine BI.sep_mono (ten_mono fun s => Landed_free m c _ _ s) ?_
    by_cases h32 : n < 32
    · rw [if_pos h32, if_pos (by omega)]; exact fun _ h => h
    · rw [if_neg h32, if_neg (by omega)]; exact fun _ h => h

/-! ## The parts of the body -/

section Parts

variable (c : Dev nD) (i : grid0.Coords)
  (a1 : Memref sig .tc .vmem S64x64 .f32) (h1 : a1.IsWhole)
  (a2 : Memref sig .tc .vmem S1600x128 .f32) (h2 : a2.IsWhole)
  (a4 : Memref sig .tc .vmem S128x64 .f32) (h4 : a4.IsWhole)
  (a5 : Memref sig .tc .vmem S128x40 .f32) (h5 : a5.IsWhole)
  (a6 : Memref sig .tc .vmem S640x40 .f32) (h6 : a6.IsWhole)
  (a7 : Memref sig .tc .vmem S40x4 .f32) (h7 : a7.IsWhole)
  (a8 : Memref sig .tc .vmem S40x640 .f32) (h8 : a8.IsWhole)
  (a9 : Memref sig .tc .vmem S4x64 .f32) (h9 : a9.IsWhole)
  (a10 : Memref sig .tc .vmem S640x64 .f32) (h10 : a10.IsWhole)
  (a11 : Memref sig .tc .vmem S64x32 .f32) (h11 : a11.IsWhole)
  (a12 : Memref sig .tc .vmem S32x1 .f32) (h12 : a12.IsWhole)
  (a13 : Memref sig .tc .vmem S32x1 .f32) (h13 : a13.IsWhole)
  (a14 : Memref sig .tc .vmem S32x1 .f32) (h14 : a14.IsWhole)
  (a15 : Memref sig .tc .vmem S1x1 .f32) (h15 : a15.IsWhole)
  (a16 : Memref sig .tc .vmem S64x1 .f32) (h16 : a16.IsWhole)

set_option maxHeartbeats 4000000 in
/-- The starts, the waits, the first weights and the first three regions. -/
theorem part10_spec (X4 : Vec F S128x64 .f32)
    (Q : (Σ' (v7 : FVec F S128x64 .f32) (v19 : BitVec 32) (v23 : FVec F S1600x64 .f32) (v27 : FVec F S1600x64 .f32), FVec F S1600x64 .f32) → sProp 𝕄) :
    iprop(Bef m c (i 0).val ∗ owns (c : Thread nD τ) a4 fullShare X4 ∗ (∃ W, owes (c : Thread nD τ) 0 W)) ⊢
      iprop((∀ v19 u0 u1 u2, ⌜Good m c (i 0).val ⟨0, by decide⟩ u0 ∧ Good m c (i 0).val ⟨1, by decide⟩ u1 ∧ Good m c (i 0).val ⟨2, by decide⟩ u2⌝
          -∗ Ups m c (i 0).val -∗ Side m c (i 0).val -∗ owns (c : Thread nD τ) a4 fullShare X4 -∗ (∃ W, owes (c : Thread nD τ) 0 W)
          -∗ Q ⟨k0_pay2 X4, v19, k0_pay3 X4 u0, k0_pay4 X4 u1, k0_pay5 X4 u2⟩)
        -∗ wp frame (wpE (defs₀ (F := F)) Variants.none (c : Thread nD τ) none) Set.univ (k0_part10 (F := F) i a1 h1 a2 h2 hbmM (Memref.isWhole_whole _) a4 h4 a5 h5 a6 h6 a7 h7 a8 h8 a9 h9 a10 h10 a11 h11 a12 h12 a13 h13 a14 h14 a15 h15 a16 h16 slabM (Memref.isWhole_whole _) cc0_scratch1) Q) := by
  rw [k0_part10_eq_skeleton]; unfold k0_part10_skel
  rw [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  unfold Prog.lift
  simp only [wp_bind, wp_pure]
  unfold Bef
  iintro ⟨⟨HF, HO⟩, H4, HW⟩ Hk
  have h32 : (i 0).val < 33 := (i 0).isLt
  by_cases h1 : k0_cond1 i = 1#1
  · have ht := (cond_start i).mp h1
    rw [dif_pos h1]
    simp only [wp_bind, wp_pure]
    repeat imodintro
    unfold ten
    icases HF with ⟨H0, H1, H2, H3, H4, H5, H6, H7, H8, H9⟩
    iapply (start_at m c _ (slotOf (i 0).val) ⟨0, Nat.le_of_ble_eq_true rfl⟩ (i 0).val ht _ _ _ (start_cell0 i) (start_dst0 i) (start_src0 i)) $$ H0
    iintro H0
    simp only [wp_ret, wp_bind, wp_pure]
    repeat imodintro
    iapply (start_at m c _ (slotOf (i 0).val) ⟨1, Nat.le_of_ble_eq_true rfl⟩ (i 0).val ht _ _ _ (start_cell1 i) (start_dst1 i) (start_src1 i)) $$ H1
    iintro H1
    simp only [wp_ret, wp_bind, wp_pure]
    repeat imodintro
    iapply (start_at m c _ (slotOf (i 0).val) ⟨2, Nat.le_of_ble_eq_true rfl⟩ (i 0).val ht _ _ _ (start_cell2 i) (start_dst2 i) (start_src2 i)) $$ H2
    iintro H2
    simp only [wp_ret, wp_bind, wp_pure]
    repeat imodintro
    iapply (start_at m c _ (slotOf (i 0).val) ⟨3, Nat.le_of_ble_eq_true rfl⟩ (i 0).val ht _ _ _ (start_cell3 i) (start_dst3 i) (start_src3 i)) $$ H3
    iintro H3
    simp only [wp_ret, wp_bind, wp_pure]
    repeat imodintro
    iapply (start_at m c _ (slotOf (i 0).val) ⟨4, Nat.le_of_ble_eq_true rfl⟩ (i 0).val ht _ _ _ (start_cell4 i) (start_dst4 i) (start_src4 i)) $$ H4
    iintro H4
    simp only [wp_ret, wp_bind, wp_pure]
    repeat imodintro
    iapply (start_at m c _ (slotOf (i 0).val) ⟨5, Nat.le_of_ble_eq_true rfl⟩ (i 0).val ht _ _ _ (start_cell5 i) (start_dst5 i) (start_src5 i)) $$ H5
    iintro H5
    simp only [wp_ret, wp_bind, wp_pure]
    repeat imodintro
    iapply (start_at m c _ (slotOf (i 0).val) ⟨6, Nat.le_of_ble_eq_true rfl⟩ (i 0).val ht _ _ _ (start_cell6 i) (start_dst6 i) (start_src6 i)) $$ H6
    iintro H6
    simp only [wp_ret, wp_bind, wp_pure]
    repeat imodintro
    iapply (start_at m c _ (slotOf (i 0).val) ⟨7, Nat.le_of_ble_eq_true rfl⟩ (i 0).val ht _ _ _ (start_cell7 i) (start_dst7 i) (start_src7 i)) $$ H7
    iintro H7
    simp only [wp_ret, wp_bind, wp_pure]
    repeat imodintro
    iapply (start_at m c _ (slotOf (i 0).val) ⟨8, Nat.le_of_ble_eq_true rfl⟩ (i 0).val ht _ _ _ (start_cell8 i) (start_dst8 i) (start_src8 i)) $$ H8
    iintro H8
    simp only [wp_ret, wp_bind, wp_pure]
    repeat imodintro
    iapply (start_at m c _ (slotOf (i 0).val) ⟨9, Nat.le_of_ble_eq_true rfl⟩ (i 0).val ht _ _ _ (start_cell9 i) (start_dst9 i) (start_src9 i)) $$ H9
    iintro H9
    simp only [wp_ret, wp_bind, wp_pure]
    repeat imodintro
    ihave HS : Sta m c (i 0).val $$ [H0 H1 H2 H3 H4 H5 H6 H7 H8 H9]
    · unfold Sta
      rw [if_pos ht]
      unfold ten
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    by_cases h2 : k0_cond2 i = 1#1
    · have h0 := (cond_wait i).mp h2
      rw [dif_pos h2]
      simp only [wp_bind, wp_pure]
      repeat imodintro
      ihave HO := (Oth_fly m c (i 0).val h0 (by omega)) $$ HO
      unfold ten
      icases HO with ⟨H0, H1, H2, H3, H4, H5, H6, H7, H8, H9⟩
      iapply (finish_at m c _ (slotOf ((i 0).val - 1)) ⟨0, Nat.le_of_ble_eq_true rfl⟩ ((i 0).val - 1) _ _ _ (wait_cell0 i h0)) $$ [H0 HW]
      · isplitl [H0]; · iexact H0
        iexact HW
      iintro ⟨H0, HW⟩
      simp only [wp_ret, wp_bind, wp_pure]
      repeat imodintro
      iapply (finish_at m c _ (slotOf ((i 0).val - 1)) ⟨1, Nat.le_of_ble_eq_true rfl⟩ ((i 0).val - 1) _ _ _ (wait_cell1 i h0)) $$ [H1 HW]
      · isplitl [H1]; · iexact H1
        iexact HW
      iintro ⟨H1, HW⟩
      simp only [wp_ret, wp_bind, wp_pure]
      repeat imodintro
      iapply (finish_at m c _ (slotOf ((i 0).val - 1)) ⟨2, Nat.le_of_ble_eq_true rfl⟩ ((i 0).val - 1) _ _ _ (wait_cell2 i h0)) $$ [H2 HW]
      · isplitl [H2]; · iexact H2
        iexact HW
      iintro ⟨H2, HW⟩
      simp only [wp_ret, wp_bind, wp_pure]
      repeat imodintro
      iapply (finish_at m c _ (slotOf ((i 0).val - 1)) ⟨3, Nat.le_of_ble_eq_true rfl⟩ ((i 0).val - 1) _ _ _ (wait_cell3 i h0)) $$ [H3 HW]
      · isplitl [H3]; · iexact H3
        iexact HW
      iintro ⟨H3, HW⟩
      simp only [wp_ret, wp_bind, wp_pure]
      repeat imodintro
      iapply (finish_at m c _ (slotOf ((i 0).val - 1)) ⟨4, Nat.le_of_ble_eq_true rfl⟩ ((i 0).val - 1) _ _ _ (wait_cell4 i h0)) $$ [H4 HW]
      · isplitl [H4]; · iexact H4
        iexact HW
      iintro ⟨H4, HW⟩
      simp only [wp_ret, wp_bind, wp_pure]
      repeat imodintro
      iapply (finish_at m c _ (slotOf ((i 0).val - 1)) ⟨5, Nat.le_of_ble_eq_true rfl⟩ ((i 0).val - 1) _ _ _ (wait_cell5 i h0)) $$ [H5 HW]
      · isplitl [H5]; · iexact H5
        iexact HW
      iintro ⟨H5, HW⟩
      simp only [wp_ret, wp_bind, wp_pure]
      repeat imodintro
      iapply (finish_at m c _ (slotOf ((i 0).val - 1)) ⟨6, Nat.le_of_ble_eq_true rfl⟩ ((i 0).val - 1) _ _ _ (wait_cell6 i h0)) $$ [H6 HW]
      · isplitl [H6]; · iexact H6
        iexact HW
      iintro ⟨H6, HW⟩
      simp only [wp_ret, wp_bind, wp_pure]
      repeat imodintro
      iapply (finish_at m c _ (slotOf ((i 0).val - 1)) ⟨7, Nat.le_of_ble_eq_true rfl⟩ ((i 0).val - 1) _ _ _ (wait_cell7 i h0)) $$ [H7 HW]
      · isplitl [H7]; · iexact H7
        iexact HW
      iintro ⟨H7, HW⟩
      simp only [wp_ret, wp_bind, wp_pure]
      repeat imodintro
      iapply (finish_at m c _ (slotOf ((i 0).val - 1)) ⟨8, Nat.le_of_ble_eq_true rfl⟩ ((i 0).val - 1) _ _ _ (wait_cell8 i h0)) $$ [H8 HW]
      · isplitl [H8]; · iexact H8
        iexact HW
      iintro ⟨H8, HW⟩
      simp only [wp_ret, wp_bind, wp_pure]
      repeat imodintro
      iapply (finish_at m c _ (slotOf ((i 0).val - 1)) ⟨9, Nat.le_of_ble_eq_true rfl⟩ ((i 0).val - 1) _ _ _ (wait_cell9 i h0)) $$ [H9 HW]
      · isplitl [H9]; · iexact H9
        iexact HW
      iintro ⟨H9, HW⟩
      simp only [wp_ret, wp_bind, wp_pure]
      repeat imodintro
      ihave HD : Don m c (i 0).val $$ [H0 H1 H2 H3 H4 H5 H6 H7 H8 H9]
      · unfold Don
        rw [if_neg h0]
        unfold ten
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      ihave HM := (toUps m c (i 0).val) $$ [HS HD]
      · isplitl [HS]; · iexact HS
        iexact HD
      icases HM with ⟨HU, HR⟩
      iapply (load_win c _ a4 X4) $$ H4
      iintro H4
      simp only [wp_ret, wp_bind, wp_pure]
      repeat imodintro
      unfold Ups ten
      icases HU with ⟨H0, H1, H2, H3, H4, H5, H6, H7, H8, H9⟩
      iapply (load_at m c _ (slotOf ((i 0).val - 1)) ⟨0, Nat.le_of_ble_eq_true rfl⟩ (i 0).val _ (load_off0 i)) $$ H0
      iintro %u0 %g0 H0
      simp only [wp_ret, wp_bind, wp_pure]
      repeat imodintro
      iapply (load_at m c _ (slotOf ((i 0).val - 1)) ⟨1, Nat.le_of_ble_eq_true rfl⟩ (i 0).val _ (load_off1 i)) $$ H1
      iintro %u1 %g1 H1
      simp only [wp_ret, wp_bind, wp_pure]
      repeat imodintro
      iapply (load_at m c _ (slotOf ((i 0).val - 1)) ⟨2, Nat.le_of_ble_eq_true rfl⟩ (i 0).val _ (load_off2 i)) $$ H2
      iintro %u2 %g2 H2
      simp only [wp_ret, wp_bind, wp_pure]
      repeat imodintro
      iapply Hk $$ %_ %u0 %u1 %u2 [] [H0 H1 H2 H3 H4 H5 H6 H7 H8 H9] HR H4 HW
      · ipureintro; exact ⟨g0, g1, g2⟩
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
    · have h0 : (i 0).val = 0 := by by_contra h; exact h2 ((cond_wait i).mpr h)
      rw [dif_neg h2]
      simp only [wp_bind, wp_pure]
      repeat imodintro
      ihave HD := (Oth_zero m c (i 0).val h0) $$ HO
      ihave HM := (toUps m c (i 0).val) $$ [HS HD]
      · isplitl [HS]; · iexact HS
        iexact HD
      icases HM with ⟨HU, HR⟩
      iapply (load_win c _ a4 X4) $$ H4
      iintro H4
      simp only [wp_ret, wp_bind, wp_pure]
      repeat imodintro
      unfold Ups ten
      icases HU with ⟨H0, H1, H2, H3, H4, H5, H6, H7, H8, H9⟩
      iapply (load_at m c _ (slotOf ((i 0).val - 1)) ⟨0, Nat.le_of_ble_eq_true rfl⟩ (i 0).val _ (load_off0 i)) $$ H0
      iintro %u0 %g0 H0
      simp only [wp_ret, wp_bind, wp_pure]
      repeat imodintro
      iapply (load_at m c _ (slotOf ((i 0).val - 1)) ⟨1, Nat.le_of_ble_eq_true rfl⟩ (i 0).val _ (load_off1 i)) $$ H1
      iintro %u1 %g1 H1
      simp only [wp_ret, wp_bind, wp_pure]
      repeat imodintro
      iapply (load_at m c _ (slotOf ((i 0).val - 1)) ⟨2, Nat.le_of_ble_eq_true rfl⟩ (i 0).val _ (load_off2 i)) $$ H2
      iintro %u2 %g2 H2
      simp only [wp_ret, wp_bind, wp_pure]
      repeat imodintro
      iapply Hk $$ %_ %u0 %u1 %u2 [] [H0 H1 H2 H3 H4 H5 H6 H7 H8 H9] HR H4 HW
      · ipureintro; exact ⟨g0, g1, g2⟩
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
  · have hn : ¬ (i 0).val < 32 := fun h => h1 ((cond_start i).mpr h)
    have h0 : (i 0).val ≠ 0 := by omega
    have h2 : k0_cond2 i = 1#1 := (cond_wait i).mpr h0
    rw [dif_neg h1, dif_pos h2]
    simp only [wp_bind, wp_pure]
    repeat imodintro
    ihave HS := (Sta_free m c (i 0).val hn) $$ HF
    ihave HO := (Oth_fly m c (i 0).val h0 (by omega)) $$ HO
    unfold ten
    icases HO with ⟨H0, H1, H2, H3, H4, H5, H6, H7, H8, H9⟩
    iapply (finish_at m c _ (slotOf ((i 0).val - 1)) ⟨0, Nat.le_of_ble_eq_true rfl⟩ ((i 0).val - 1) _ _ _ (wait_cell0 i h0)) $$ [H0 HW]
    · isplitl [H0]; · iexact H0
      iexact HW
    iintro ⟨H0, HW⟩
    simp only [wp_ret, wp_bind, wp_pure]
    repeat imodintro
    iapply (finish_at m c _ (slotOf ((i 0).val - 1)) ⟨1, Nat.le_of_ble_eq_true rfl⟩ ((i 0).val - 1) _ _ _ (wait_cell1 i h0)) $$ [H1 HW]
    · isplitl [H1]; · iexact H1
      iexact HW
    iintro ⟨H1, HW⟩
    simp only [wp_ret, wp_bind, wp_pure]
    repeat imodintro
    iapply (finish_at m c _ (slotOf ((i 0).val - 1)) ⟨2, Nat.le_of_ble_eq_true rfl⟩ ((i 0).val - 1) _ _ _ (wait_cell2 i h0)) $$ [H2 HW]
    · isplitl [H2]; · iexact H2
      iexact HW
    iintro ⟨H2, HW⟩
    simp only [wp_ret, wp_bind, wp_pure]
    repeat imodintro
    iapply (finish_at m c _ (slotOf ((i 0).val - 1)) ⟨3, Nat.le_of_ble_eq_true rfl⟩ ((i 0).val - 1) _ _ _ (wait_cell3 i h0)) $$ [H3 HW]
    · isplitl [H3]; · iexact H3
      iexact HW
    iintro ⟨H3, HW⟩
    simp only [wp_ret, wp_bind, wp_pure]
    repeat imodintro
    iapply (finish_at m c _ (slotOf ((i 0).val - 1)) ⟨4, Nat.le_of_ble_eq_true rfl⟩ ((i 0).val - 1) _ _ _ (wait_cell4 i h0)) $$ [H4 HW]
    · isplitl [H4]; · iexact H4
      iexact HW
    iintro ⟨H4, HW⟩
    simp only [wp_ret, wp_bind, wp_pure]
    repeat imodintro
    iapply (finish_at m c _ (slotOf ((i 0).val - 1)) ⟨5, Nat.le_of_ble_eq_true rfl⟩ ((i 0).val - 1) _ _ _ (wait_cell5 i h0)) $$ [H5 HW]
    · isplitl [H5]; · iexact H5
      iexact HW
    iintro ⟨H5, HW⟩
    simp only [wp_ret, wp_bind, wp_pure]
    repeat imodintro
    iapply (finish_at m c _ (slotOf ((i 0).val - 1)) ⟨6, Nat.le_of_ble_eq_true rfl⟩ ((i 0).val - 1) _ _ _ (wait_cell6 i h0)) $$ [H6 HW]
    · isplitl [H6]; · iexact H6
      iexact HW
    iintro ⟨H6, HW⟩
    simp only [wp_ret, wp_bind, wp_pure]
    repeat imodintro
    iapply (finish_at m c _ (slotOf ((i 0).val - 1)) ⟨7, Nat.le_of_ble_eq_true rfl⟩ ((i 0).val - 1) _ _ _ (wait_cell7 i h0)) $$ [H7 HW]
    · isplitl [H7]; · iexact H7
      iexact HW
    iintro ⟨H7, HW⟩
    simp only [wp_ret, wp_bind, wp_pure]
    repeat imodintro
    iapply (finish_at m c _ (slotOf ((i 0).val - 1)) ⟨8, Nat.le_of_ble_eq_true rfl⟩ ((i 0).val - 1) _ _ _ (wait_cell8 i h0)) $$ [H8 HW]
    · isplitl [H8]; · iexact H8
      iexact HW
    iintro ⟨H8, HW⟩
    simp only [wp_ret, wp_bind, wp_pure]
    repeat imodintro
    iapply (finish_at m c _ (slotOf ((i 0).val - 1)) ⟨9, Nat.le_of_ble_eq_true rfl⟩ ((i 0).val - 1) _ _ _ (wait_cell9 i h0)) $$ [H9 HW]
    · isplitl [H9]; · iexact H9
      iexact HW
    iintro ⟨H9, HW⟩
    simp only [wp_ret, wp_bind, wp_pure]
    repeat imodintro
    ihave HD : Don m c (i 0).val $$ [H0 H1 H2 H3 H4 H5 H6 H7 H8 H9]
    · unfold Don
      rw [if_neg h0]
      unfold ten
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    ihave HM := (toUps m c (i 0).val) $$ [HS HD]
    · isplitl [HS]; · iexact HS
      iexact HD
    icases HM with ⟨HU, HR⟩
    iapply (load_win c _ a4 X4) $$ H4
    iintro H4
    simp only [wp_ret, wp_bind, wp_pure]
    repeat imodintro
    unfold Ups ten
    icases HU with ⟨H0, H1, H2, H3, H4, H5, H6, H7, H8, H9⟩
    iapply (load_at m c _ (slotOf ((i 0).val - 1)) ⟨0, Nat.le_of_ble_eq_true rfl⟩ (i 0).val _ (load_off0 i)) $$ H0
    iintro %u0 %g0 H0
    simp only [wp_ret, wp_bind, wp_pure]
    repeat imodintro
    iapply (load_at m c _ (slotOf ((i 0).val - 1)) ⟨1, Nat.le_of_ble_eq_true rfl⟩ (i 0).val _ (load_off1 i)) $$ H1
    iintro %u1 %g1 H1
    simp only [wp_ret, wp_bind, wp_pure]
    repeat imodintro
    iapply (load_at m c _ (slotOf ((i 0).val - 1)) ⟨2, Nat.le_of_ble_eq_true rfl⟩ (i 0).val _ (load_off2 i)) $$ H2
    iintro %u2 %g2 H2
    simp only [wp_ret, wp_bind, wp_pure]
    repeat imodintro
    iapply Hk $$ %_ %u0 %u1 %u2 [] [H0 H1 H2 H3 H4 H5 H6 H7 H8 H9] HR H4 HW
    · ipureintro; exact ⟨g0, g1, g2⟩
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

end Parts

end Cert.KernelIdeal.Hand

end
-- ==== Proof.KernelIdeal.Steps.lean ====
/-
  The rest of the body at one grid point — the seven other regions, the helper matrices, the two layers and the store — and
  the body whole: what it stores is `outBlk` of what it loads.
-/
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (m : (ℓ : Loc nD τ sig) → Buf (Elt F) ℓ)

section Parts

variable (c : Dev nD) (i : grid0.Coords)
  (a1 : Memref sig .tc .vmem S64x64 .f32) (h1 : a1.IsWhole)
  (a2 : Memref sig .tc .vmem S1600x128 .f32) (h2 : a2.IsWhole)
  (a4 : Memref sig .tc .vmem S128x64 .f32) (h4 : a4.IsWhole)
  (a5 : Memref sig .tc .vmem S128x40 .f32) (h5 : a5.IsWhole)
  (a6 : Memref sig .tc .vmem S640x40 .f32) (h6 : a6.IsWhole)
  (a7 : Memref sig .tc .vmem S40x4 .f32) (h7 : a7.IsWhole)
  (a8 : Memref sig .tc .vmem S40x640 .f32) (h8 : a8.IsWhole)
  (a9 : Memref sig .tc .vmem S4x64 .f32) (h9 : a9.IsWhole)
  (a10 : Memref sig .tc .vmem S640x64 .f32) (h10 : a10.IsWhole)
  (a11 : Memref sig .tc .vmem S64x32 .f32) (h11 : a11.IsWhole)
  (a12 : Memref sig .tc .vmem S32x1 .f32) (h12 : a12.IsWhole)
  (a13 : Memref sig .tc .vmem S32x1 .f32) (h13 : a13.IsWhole)
  (a14 : Memref sig .tc .vmem S32x1 .f32) (h14 : a14.IsWhole)
  (a15 : Memref sig .tc .vmem S1x1 .f32) (h15 : a15.IsWhole)
  (a16 : Memref sig .tc .vmem S64x1 .f32) (h16 : a16.IsWhole)

set_option maxHeartbeats 4000000 in
/-- The other seven regions, the first neighbours' features and their score weights. -/
theorem part11_spec (X2 : Vec F S1600x128 .f32) (X5 : Vec F S128x40 .f32) (X6 : Vec F S640x40 .f32) (v7 : FVec F S128x64 .f32) (v19 : BitVec 32) (v23 v27 v31 : FVec F S1600x64 .f32)
    (Q : (Σ' (v60 : FVec F S1600x640 .f32) (v64 : FVec F S1600x40 .f32), Vec F S640x40 .f32) → sProp 𝕄) :
    iprop(Ups m c (i 0).val ∗ owns (c : Thread nD τ) a2 fullShare X2 ∗ owns (c : Thread nD τ) a5 fullShare X5 ∗ owns (c : Thread nD τ) a6 fullShare X6) ⊢
      iprop((∀ u3 u4 u5 u6 u7 u8 u9, ⌜Good m c (i 0).val ⟨3, Nat.le_of_ble_eq_true rfl⟩ u3 ∧ Good m c (i 0).val ⟨4, Nat.le_of_ble_eq_true rfl⟩ u4 ∧ Good m c (i 0).val ⟨5, Nat.le_of_ble_eq_true rfl⟩ u5 ∧ Good m c (i 0).val ⟨6, Nat.le_of_ble_eq_true rfl⟩ u6 ∧ Good m c (i 0).val ⟨7, Nat.le_of_ble_eq_true rfl⟩ u7 ∧ Good m c (i 0).val ⟨8, Nat.le_of_ble_eq_true rfl⟩ u8 ∧ Good m c (i 0).val ⟨9, Nat.le_of_ble_eq_true rfl⟩ u9⌝ -∗ Ups m c (i 0).val -∗ owns (c : Thread nD τ) a2 fullShare X2 -∗ owns (c : Thread nD τ) a5 fullShare X5 -∗ owns (c : Thread nD τ) a6 fullShare X6 -∗ Q ⟨k0_pay6 v7 v23 v27 v31 u3 u4 u5 u6 u7 u8 u9, k0_pay7 X2 X5, X6⟩)
        -∗ wp frame (wpE (defs₀ (F := F)) Variants.none (c : Thread nD τ) none) Set.univ (k0_part11 (F := F) i a1 h1 a2 h2 hbmM (Memref.isWhole_whole _) a4 h4 a5 h5 a6 h6 a7 h7 a8 h8 a9 h9 a10 h10 a11 h11 a12 h12 a13 h13 a14 h14 a15 h15 a16 h16 slabM (Memref.isWhole_whole _) cc0_scratch1 v7 v19 v23 v27 v31) Q) := by
  rw [k0_part11_eq_skeleton]; unfold k0_part11_skel Prog.lift
  simp only [wp_bind, wp_pure]
  iintro ⟨HU, W2, W5, W6⟩ Hk
  unfold Ups ten
  icases HU with ⟨H0, H1, H2, H3, H4, H5, H6, H7, H8, H9⟩
  iapply (load_at m c _ (slotOf ((i 0).val - 1)) ⟨3, Nat.le_of_ble_eq_true rfl⟩ (i 0).val _ (load_off3 i)) $$ H3
  iintro %u3 %g3 H3
  simp only [wp_ret, wp_bind, wp_pure]
  repeat imodintro
  iapply (load_at m c _ (slotOf ((i 0).val - 1)) ⟨4, Nat.le_of_ble_eq_true rfl⟩ (i 0).val _ (load_off4 i)) $$ H4
  iintro %u4 %g4 H4
  simp only [wp_ret, wp_bind, wp_pure]
  repeat imodintro
  iapply (load_at m c _ (slotOf ((i 0).val - 1)) ⟨5, Nat.le_of_ble_eq_true rfl⟩ (i 0).val _ (load_off5 i)) $$ H5
  iintro %u5 %g5 H5
  simp only [wp_ret, wp_bind, wp_pure]
  repeat imodintro
  iapply (load_at m c _ (slotOf ((i 0).val - 1)) ⟨6, Nat.le_of_ble_eq_true rfl⟩ (i 0).val _ (load_off6 i)) $$ H6
  iintro %u6 %g6 H6
  simp only [wp_ret, wp_bind, wp_pure]
  repeat imodintro
  iapply (load_at m c _ (slotOf ((i 0).val - 1)) ⟨7, Nat.le_of_ble_eq_true rfl⟩ (i 0).val _ (load_off7 i)) $$ H7
  iintro %u7 %g7 H7
  simp only [wp_ret, wp_bind, wp_pure]
  repeat imodintro
  iapply (load_at m c _ (slotOf ((i 0).val - 1)) ⟨8, Nat.le_of_ble_eq_true rfl⟩ (i 0).val _ (load_off8 i)) $$ H8
  iintro %u8 %g8 H8
  simp only [wp_ret, wp_bind, wp_pure]
  repeat imodintro
  iapply (load_at m c _ (slotOf ((i 0).val - 1)) ⟨9, Nat.le_of_ble_eq_true rfl⟩ (i 0).val _ (load_off9 i)) $$ H9
  iintro %u9 %g9 H9
  simp only [wp_ret, wp_bind, wp_pure]
  repeat imodintro
  iapply (load_win c _ a2 X2) $$ W2
  iintro W2
  simp only [wp_ret, wp_bind, wp_pure]
  repeat imodintro
  iapply (load_win c _ a5 X5) $$ W5
  iintro W5
  simp only [wp_ret, wp_bind, wp_pure]
  repeat imodintro
  iapply (load_win c _ a6 X6) $$ W6
  iintro W6
  simp only [wp_ret, wp_bind, wp_pure]
  repeat imodintro
  iapply Hk $$ %u3 %u4 %u5 %u6 %u7 %u8 %u9 [] [H0 H1 H2 H3 H4 H5 H6 H7 H8 H9] W2 W5 W6
  · ipureintro; exact ⟨g3, g4, g5, g6, g7, g8, g9⟩
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

set_option maxHeartbeats 4000000 in
/-- The first layer. -/
theorem part12_spec (X7 : Vec F S40x4 .f32) (X9 : Vec F S4x64 .f32) (X8 : Vec F S40x640 .f32) (X10 : Vec F S640x64 .f32) (X11 : Vec F S64x32 .f32) (v60 : FVec F S1600x640 .f32) (v64 : FVec F S1600x40 .f32) (v65 : Vec F S640x40 .f32)
    (Q : (Σ' (v100 : FVec F S1600x64 .f32), FVec F S64x32 .f32) → sProp 𝕄) :
    iprop(owns (c : Thread nD τ) a7 fullShare X7 ∗ owns (c : Thread nD τ) a9 fullShare X9 ∗ owns (c : Thread nD τ) a8 fullShare X8 ∗ owns (c : Thread nD τ) a10 fullShare X10 ∗ owns (c : Thread nD τ) a11 fullShare X11) ⊢
      iprop((owns (c : Thread nD τ) a7 fullShare X7 -∗ owns (c : Thread nD τ) a9 fullShare X9 -∗ owns (c : Thread nD τ) a8 fullShare X8 -∗ owns (c : Thread nD τ) a10 fullShare X10 -∗ owns (c : Thread nD τ) a11 fullShare X11 -∗ Q ⟨k0_pay8 v60 v64 v65 X7 X9 X8 X10, k0_pay9 X11⟩)
        -∗ wp frame (wpE (defs₀ (F := F)) Variants.none (c : Thread nD τ) none) Set.univ (k0_part12 (F := F) i a1 h1 a2 h2 hbmM (Memref.isWhole_whole _) a4 h4 a5 h5 a6 h6 a7 h7 a8 h8 a9 h9 a10 h10 a11 h11 a12 h12 a13 h13 a14 h14 a15 h15 a16 h16 slabM (Memref.isWhole_whole _) cc0_scratch1 v60 v64 v65) Q) := by
  rw [k0_part12_eq_skeleton]; unfold k0_part12_skel Prog.lift
  simp only [wp_bind, wp_pure]
  iintro ⟨W7, W9, W8, W10, W11⟩ Hk
  iapply (load_win c _ a7 X7) $$ W7
  iintro W7
  simp only [wp_ret, wp_bind, wp_pure]
  repeat imodintro
  iapply (load_win c _ a9 X9) $$ W9
  iintro W9
  simp only [wp_ret, wp_bind, wp_pure]
  repeat imodintro
  iapply (load_win c _ a8 X8) $$ W8
  iintro W8
  simp only [wp_ret, wp_bind, wp_pure]
  repeat imodintro
  iapply (load_win c _ a10 X10) $$ W10
  iintro W10
  simp only [wp_ret, wp_bind, wp_pure]
  repeat imodintro
  iapply (load_win c _ a11 X11) $$ W11
  iintro W11
  simp only [wp_ret, wp_bind, wp_pure]
  repeat imodintro
  iapply Hk $$ W7 W9 W8 W10 W11

set_option maxHeartbeats 4000000 in
/-- The second layer's products. -/
theorem part13_spec (X1 : Vec F S64x64 .f32) (X12 : Vec F S32x1 .f32) (X13 : Vec F S32x1 .f32) (v100 : FVec F S1600x64 .f32) (v102 : FVec F S64x32 .f32)
    (Q : (Σ' (v105 : FVec F S1600x32 .f32) (v108 : FVec F S64x1 .f32) (v111 : FVec F S1600x1 .f32) (v141 : FVec F S64x1600 .f32) (v142 : IVec S1600x25 32) (c25_i32_76 : BitVec 32), BitVec 32) → sProp 𝕄) :
    iprop(owns (c : Thread nD τ) a1 fullShare X1 ∗ owns (c : Thread nD τ) a12 fullShare X12 ∗ owns (c : Thread nD τ) a13 fullShare X13) ⊢
      iprop((owns (c : Thread nD τ) a1 fullShare X1 -∗ owns (c : Thread nD τ) a12 fullShare X12 -∗ owns (c : Thread nD τ) a13 fullShare X13 -∗ Q ⟨k0_pay10 v100 v102, k0_pay11 v102 X1 X12, k0_pay12 v100 v102 X13, k0_pay13 (F := F), iota .tc S1600x25 32 [0] iota_S1600x25_d0_w32, 25#32, 0#32⟩)
        -∗ wp frame (wpE (defs₀ (F := F)) Variants.none (c : Thread nD τ) none) Set.univ (k0_part13 (F := F) i a1 h1 a2 h2 hbmM (Memref.isWhole_whole _) a4 h4 a5 h5 a6 h6 a7 h7 a8 h8 a9 h9 a10 h10 a11 h11 a12 h12 a13 h13 a14 h14 a15 h15 a16 h16 slabM (Memref.isWhole_whole _) cc0_scratch1 v100 v102) Q) := by
  rw [k0_part13_eq_skeleton]; unfold k0_part13_skel Prog.lift
  simp only [wp_bind, wp_pure]
  iintro ⟨W1, W12, W13⟩ Hk
  iapply (load_win c _ a1 X1) $$ W1
  iintro W1
  simp only [wp_ret, wp_bind, wp_pure]
  repeat imodintro
  iapply (load_win c _ a12 X12) $$ W12
  iintro W12
  simp only [wp_ret, wp_bind, wp_pure]
  repeat imodintro
  iapply (load_win c _ a13 X13) $$ W13
  iintro W13
  simp only [wp_ret, wp_bind, wp_pure]
  repeat imodintro
  iapply Hk $$ W1 W12 W13

set_option maxHeartbeats 4000000 in
/-- The second layer's weights, sums and the last product. -/
theorem part14_spec (X14 : Vec F S32x1 .f32) (v105 : FVec F S1600x32 .f32) (v108 : FVec F S64x1 .f32) (v111 : FVec F S1600x1 .f32) (v141 : FVec F S64x1600 .f32) (v142 : IVec S1600x25 32) (c25_i32_76 c0_i32_77 : BitVec 32)
    (Q : FVec F S64x1 .f32 → sProp 𝕄) :
    iprop(owns (c : Thread nD τ) a14 fullShare X14) ⊢
      iprop((owns (c : Thread nD τ) a14 fullShare X14 -∗ Q (k0_pay14 v105 v108 v111 v141 v142 c25_i32_76 c0_i32_77 X14))
        -∗ wp frame (wpE (defs₀ (F := F)) Variants.none (c : Thread nD τ) none) Set.univ (k0_part14 (F := F) i a1 h1 a2 h2 hbmM (Memref.isWhole_whole _) a4 h4 a5 h5 a6 h6 a7 h7 a8 h8 a9 h9 a10 h10 a11 h11 a12 h12 a13 h13 a14 h14 a15 h15 a16 h16 slabM (Memref.isWhole_whole _) cc0_scratch1 v105 v108 v111 v141 v142 c25_i32_76 c0_i32_77) Q) := by
  rw [k0_part14_eq_skeleton]; unfold k0_part14_skel Prog.lift
  simp only [wp_bind, wp_pure]
  iintro W14 Hk
  iapply (load_win c _ a14 X14) $$ W14
  iintro W14
  simp only [wp_ret, wp_bind, wp_pure]
  repeat imodintro
  iapply Hk $$ W14

end Parts

/-- The first layer's result for one block: from the ten regions and the blocks of the operands. -/
def g1Blk (u : Fin 10 → Vec F S1x1600x128 .f32) (X2 : Vec F S1600x128 .f32) (X4 : Vec F S128x64 .f32) (X5 : Vec F S128x40 .f32) (X6 : Vec F S640x40 .f32)
    (X7 : Vec F S40x4 .f32) (X8 : Vec F S40x640 .f32) (X9 : Vec F S4x64 .f32) (X10 : Vec F S640x64 .f32) : FVec F S1600x64 .f32 :=
  k0_pay8 (k0_pay6 (k0_pay2 X4) (k0_pay3 X4 (u 0)) (k0_pay4 X4 (u 1)) (k0_pay5 X4 (u 2)) (u 3) (u 4) (u 5) (u 6) (u 7) (u 8) (u 9)) (k0_pay7 X2 X5) X6 X7 X9 X8 X10

/-- The block of results one grid point stores, from the ten regions and the blocks of the operands. -/
def outBlk (u : Fin 10 → Vec F S1x1600x128 .f32) (X1 : Vec F S64x64 .f32) (X2 : Vec F S1600x128 .f32) (X4 : Vec F S128x64 .f32) (X5 : Vec F S128x40 .f32) (X6 : Vec F S640x40 .f32) (X7 : Vec F S40x4 .f32) (X8 : Vec F S40x640 .f32) (X9 : Vec F S4x64 .f32) (X10 : Vec F S640x64 .f32) (X11 : Vec F S64x32 .f32) (X12 : Vec F S32x1 .f32) (X13 : Vec F S32x1 .f32) (X14 : Vec F S32x1 .f32) (X15 : Vec F S1x1 .f32) : FVec F S64x1 .f32 :=
  let g := g1Blk u X2 X4 X5 X6 X7 X8 X9 X10
  let w := k0_pay9 X11
  k0_pay1 (k0_pay14 (k0_pay10 g w) (k0_pay11 w X1 X12) (k0_pay12 g w X13) (k0_pay13 (F := F)) (iota .tc S1600x25 32 [0] iota_S1600x25_d0_w32) 25#32 0#32 X14) X15

/-- `outBlk` of ten regions named one by one. -/
theorem outBlk_eq (u0 u1 u2 u3 u4 u5 u6 u7 u8 u9 : Vec F S1x1600x128 .f32) (X1 : Vec F S64x64 .f32) (X2 : Vec F S1600x128 .f32) (X4 : Vec F S128x64 .f32) (X5 : Vec F S128x40 .f32) (X6 : Vec F S640x40 .f32) (X7 : Vec F S40x4 .f32) (X8 : Vec F S40x640 .f32) (X9 : Vec F S4x64 .f32) (X10 : Vec F S640x64 .f32) (X11 : Vec F S64x32 .f32) (X12 : Vec F S32x1 .f32) (X13 : Vec F S32x1 .f32) (X14 : Vec F S32x1 .f32) (X15 : Vec F S1x1 .f32) :
    outBlk ![u0, u1, u2, u3, u4, u5, u6, u7, u8, u9] X1 X2 X4 X5 X6 X7 X8 X9 X10 X11 X12 X13 X14 X15
      = k0_pay1 (k0_pay14 (k0_pay10 (k0_pay8 (k0_pay6 (k0_pay2 X4) (k0_pay3 X4 u0) (k0_pay4 X4 u1) (k0_pay5 X4 u2) u3 u4 u5 u6 u7 u8 u9)
          (k0_pay7 X2 X5) X6 X7 X9 X8 X10) (k0_pay9 X11)) (k0_pay11 (k0_pay9 X11) X1 X12)
        (k0_pay12 (k0_pay8 (k0_pay6 (k0_pay2 X4) (k0_pay3 X4 u0) (k0_pay4 X4 u1) (k0_pay5 X4 u2) u3 u4 u5 u6 u7 u8 u9)
          (k0_pay7 X2 X5) X6 X7 X9 X8 X10) (k0_pay9 X11) X13) (k0_pay13 (F := F)) (iota .tc S1600x25 32 [0] iota_S1600x25_d0_w32) 25#32 0#32 X14) X15 := rfl

section Whole

variable (c : Dev nD) (i : grid0.Coords)
  (a1 : Memref sig .tc .vmem S64x64 .f32) (h1 : a1.IsWhole)
  (a2 : Memref sig .tc .vmem S1600x128 .f32) (h2 : a2.IsWhole)
  (a4 : Memref sig .tc .vmem S128x64 .f32) (h4 : a4.IsWhole)
  (a5 : Memref sig .tc .vmem S128x40 .f32) (h5 : a5.IsWhole)
  (a6 : Memref sig .tc .vmem S640x40 .f32) (h6 : a6.IsWhole)
  (a7 : Memref sig .tc .vmem S40x4 .f32) (h7 : a7.IsWhole)
  (a8 : Memref sig .tc .vmem S40x640 .f32) (h8 : a8.IsWhole)
  (a9 : Memref sig .tc .vmem S4x64 .f32) (h9 : a9.IsWhole)
  (a10 : Memref sig .tc .vmem S640x64 .f32) (h10 : a10.IsWhole)
  (a11 : Memref sig .tc .vmem S64x32 .f32) (h11 : a11.IsWhole)
  (a12 : Memref sig .tc .vmem S32x1 .f32) (h12 : a12.IsWhole)
  (a13 : Memref sig .tc .vmem S32x1 .f32) (h13 : a13.IsWhole)
  (a14 : Memref sig .tc .vmem S32x1 .f32) (h14 : a14.IsWhole)
  (a15 : Memref sig .tc .vmem S1x1 .f32) (h15 : a15.IsWhole)
  (a16 : Memref sig .tc .vmem S64x1 .f32) (h16 : a16.IsWhole)

set_option maxHeartbeats 4000000 in
/-- The body at one grid point, whole: from the state before the point and the operands' blocks to the state after it, the
    blocks as they were, and the result block stored — at every point but the first, what the landed regions determine. -/
theorem body_spec (X1 : Vec F S64x64 .f32) (X2 : Vec F S1600x128 .f32) (X4 : Vec F S128x64 .f32) (X5 : Vec F S128x40 .f32) (X6 : Vec F S640x40 .f32) (X7 : Vec F S40x4 .f32) (X8 : Vec F S40x640 .f32) (X9 : Vec F S4x64 .f32) (X10 : Vec F S640x64 .f32) (X11 : Vec F S64x32 .f32) (X12 : Vec F S32x1 .f32) (X13 : Vec F S32x1 .f32) (X14 : Vec F S32x1 .f32) (X15 : Vec F S1x1 .f32)
    (Q : PUnit → sProp 𝕄) :
    iprop(Bef m c (i 0).val ∗ (∃ W, owes (c : Thread nD τ) 0 W) ∗ owns (c : Thread nD τ) a1 fullShare X1 ∗ owns (c : Thread nD τ) a2 fullShare X2 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11 ∗ owns (c : Thread nD τ) a12 fullShare X12 ∗ owns (c : Thread nD τ) a13 fullShare X13 ∗ owns (c : Thread nD τ) a14 fullShare X14 ∗ owns (c : Thread nD τ) a15 fullShare X15 ∗ (∃ X, owns (c : Thread nD τ) a16 fullShare X)) ⊢
      iprop((∀ u, ⌜∀ s, Good m c (i 0).val s (u s)⌝ -∗ Bef m c ((i 0).val + 1) -∗ (∃ W, owes (c : Thread nD τ) 0 W) -∗ owns (c : Thread nD τ) a1 fullShare X1 -∗ owns (c : Thread nD τ) a2 fullShare X2 -∗ owns (c : Thread nD τ) a4 fullShare X4 -∗ owns (c : Thread nD τ) a5 fullShare X5 -∗ owns (c : Thread nD τ) a6 fullShare X6 -∗ owns (c : Thread nD τ) a7 fullShare X7 -∗ owns (c : Thread nD τ) a8 fullShare X8 -∗ owns (c : Thread nD τ) a9 fullShare X9 -∗ owns (c : Thread nD τ) a10 fullShare X10 -∗ owns (c : Thread nD τ) a11 fullShare X11 -∗ owns (c : Thread nD τ) a12 fullShare X12 -∗ owns (c : Thread nD τ) a13 fullShare X13 -∗ owns (c : Thread nD τ) a14 fullShare X14 -∗ owns (c : Thread nD τ) a15 fullShare X15 -∗ owns (c : Thread nD τ) a16 fullShare (outBlk u X1 X2 X4 X5 X6 X7 X8 X9 X10 X11 X12 X13 X14 X15) -∗ Q ⟨⟩)
        -∗ wp frame (wpE (defs₀ (F := F)) Variants.none (c : Thread nD τ) none) Set.univ (cc0__gat_kernel (F := F) i a1 h1 a2 h2 hbmM (Memref.isWhole_whole _) a4 h4 a5 h5 a6 h6 a7 h7 a8 h8 a9 h9 a10 h10 a11 h11 a12 h12 a13 h13 a14 h14 a15 h15 a16 h16 slabM (Memref.isWhole_whole _) cc0_scratch1) Q) := by
  rw [cc0__gat_kernel_eq_skeleton]; unfold cc0__gat_kernel_skel
  simp only [wp_bind, wp_pure]
  iintro ⟨HB, HW, W1, W2, W4, W5, W6, W7, W8, W9, W10, W11, W12, W13, W14, W15, W16⟩ Hk
  iapply (part10_spec m c i a1 h1 a2 h2 a4 h4 a5 h5 a6 h6 a7 h7 a8 h8 a9 h9 a10 h10 a11 h11 a12 h12 a13 h13 a14 h14 a15 h15 a16 h16 X4  _) $$ [HB W4 HW]
  · isplitl [HB]; · iexact HB
    isplitl [W4]; · iexact W4
    iexact HW
  iintro %v19 %u0 %u1 %u2 %g0 HU HR W4 HW
  simp only [wp_ret, wp_bind, wp_pure]
  iapply (part11_spec m c i a1 h1 a2 h2 a4 h4 a5 h5 a6 h6 a7 h7 a8 h8 a9 h9 a10 h10 a11 h11 a12 h12 a13 h13 a14 h14 a15 h15 a16 h16 X2 X5 X6 _ _ _ _ _ _) $$ [HU W2 W5 W6]
  · isplitl [HU]; · iexact HU
    isplitl [W2]; · iexact W2
    isplitl [W5]; · iexact W5
    iexact W6
  iintro %u3 %u4 %u5 %u6 %u7 %u8 %u9 %g1 HU W2 W5 W6
  simp only [wp_ret, wp_bind, wp_pure]
  iapply (part12_spec c i a1 h1 a2 h2 a4 h4 a5 h5 a6 h6 a7 h7 a8 h8 a9 h9 a10 h10 a11 h11 a12 h12 a13 h13 a14 h14 a15 h15 a16 h16 X7 X9 X8 X10 X11 _ _ _ _) $$ [W7 W9 W8 W10 W11]
  · isplitl [W7]; · iexact W7
    isplitl [W9]; · iexact W9
    isplitl [W8]; · iexact W8
    isplitl [W10]; · iexact W10
    iexact W11
  iintro W7 W9 W8 W10 W11
  simp only [wp_ret, wp_bind, wp_pure]
  iapply (part13_spec c i a1 h1 a2 h2 a4 h4 a5 h5 a6 h6 a7 h7 a8 h8 a9 h9 a10 h10 a11 h11 a12 h12 a13 h13 a14 h14 a15 h15 a16 h16 X1 X12 X13 _ _ _) $$ [W1 W12 W13]
  · isplitl [W1]; · iexact W1
    isplitl [W12]; · iexact W12
    iexact W13
  iintro W1 W12 W13
  simp only [wp_ret, wp_bind, wp_pure]
  iapply (part14_spec c i a1 h1 a2 h2 a4 h4 a5 h5 a6 h6 a7 h7 a8 h8 a9 h9 a10 h10 a11 h11 a12 h12 a13 h13 a14 h14 a15 h15 a16 h16 X14 _ _ _ _ _ _ _ _) $$ [W14]
  · iexact W14
  iintro W14
  unfold Prog.lift
  iapply (load_win c _ a15 X15) $$ W15
  iintro W15
  simp only [wp_ret, wp_bind, wp_pure]
  repeat imodintro
  iapply (load_any c _ a16) $$ W16
  iintro %z W16
  simp only [wp_ret, wp_bind, wp_pure]
  repeat imodintro
  iapply (store_win c _ a16 _) $$ W16
  iintro W16
  simp only [wp_ret, wp_bind, wp_pure]
  repeat imodintro
  ihave HB := (toBef m c (i 0).val (i 0).isLt) $$ [HU HR]
  · isplitl [HU]; · iexact HU
    iexact HR
  iapply Hk $$ %(![u0, u1, u2, u3, u4, u5, u6, u7, u8, u9]) [] HB HW W1 W2 W4 W5 W6 W7 W8 W9 W10 W11 W12 W13 W14 W15 [W16]
  on_goal 2 => rw [outBlk_eq]; iexact W16
  ipureintro
  obtain ⟨g0, g1', g2⟩ := g0
  obtain ⟨g3, g4, g5, g6, g7, g8, g9⟩ := g1
  intro s
  fin_cases s
  exacts [g0, g1', g2, g3, g4, g5, g6, g7, g8, g9]

end Whole

end Cert.KernelIdeal.Hand

end
-- ==== Proof.KernelIdeal.Entry.lean ====
/-
  Entering and leaving the region: the slab whole against its twenty regions, the second neighbours' features whole
  against the twenty shares the transfers take and the one left over, and the twenty cells.
-/
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (m : (ℓ : Loc nD τ sig) → Buf (Elt F) ℓ)

/-- Twenty things in a row are ten and ten. -/
def twenty (P : Fin 20 → sProp 𝕄) : sProp 𝕄 :=
  iprop(P (⟨0, by decide⟩ : Fin 20) ∗ P (⟨1, by decide⟩ : Fin 20) ∗ P (⟨2, by decide⟩ : Fin 20) ∗ P (⟨3, by decide⟩ : Fin 20) ∗ P (⟨4, by decide⟩ : Fin 20) ∗ P (⟨5, by decide⟩ : Fin 20) ∗ P (⟨6, by decide⟩ : Fin 20) ∗ P (⟨7, by decide⟩ : Fin 20) ∗ P (⟨8, by decide⟩ : Fin 20) ∗ P (⟨9, by decide⟩ : Fin 20) ∗ P (⟨10, by decide⟩ : Fin 20) ∗ P (⟨11, by decide⟩ : Fin 20) ∗ P (⟨12, by decide⟩ : Fin 20) ∗ P (⟨13, by decide⟩ : Fin 20) ∗ P (⟨14, by decide⟩ : Fin 20) ∗ P (⟨15, by decide⟩ : Fin 20) ∗ P (⟨16, by decide⟩ : Fin 20) ∗ P (⟨17, by decide⟩ : Fin 20) ∗ P (⟨18, by decide⟩ : Fin 20) ∗ P (⟨19, by decide⟩ : Fin 20))

theorem bigSep_twenty (P : Fin 20 → sProp 𝕄) : bigSep Finset.univ P = twenty P :=
  bigSep_univ_eq_bigSepL [(⟨0, by decide⟩ : Fin 20), (⟨1, by decide⟩ : Fin 20), (⟨2, by decide⟩ : Fin 20), (⟨3, by decide⟩ : Fin 20), (⟨4, by decide⟩ : Fin 20), (⟨5, by decide⟩ : Fin 20), (⟨6, by decide⟩ : Fin 20), (⟨7, by decide⟩ : Fin 20), (⟨8, by decide⟩ : Fin 20), (⟨9, by decide⟩ : Fin 20), (⟨10, by decide⟩ : Fin 20), (⟨11, by decide⟩ : Fin 20), (⟨12, by decide⟩ : Fin 20), (⟨13, by decide⟩ : Fin 20), (⟨14, by decide⟩ : Fin 20), (⟨15, by decide⟩ : Fin 20), (⟨16, by decide⟩ : Fin 20), (⟨17, by decide⟩ : Fin 20), (⟨18, by decide⟩ : Fin 20), (⟨19, by decide⟩ : Fin 20)] (by decide) (by decide) P

/-- Number `k` of twenty is slot `k / 10`, second neighbour `k % 10`. -/
abbrev slotNo (k : Fin 20) : Fin 2 := ⟨k.val / 10, by have := k.isLt; omega⟩
abbrev partNo (k : Fin 20) : Fin 10 := ⟨k.val % 10, by omega⟩

theorem twenty_eq (P : Fin 2 → Fin 10 → sProp 𝕄) :
    twenty (fun k => P (slotNo k) (partNo k)) = iprop(P 0 ⟨0, by decide⟩ ∗ P 0 ⟨1, by decide⟩ ∗ P 0 ⟨2, by decide⟩ ∗ P 0 ⟨3, by decide⟩ ∗ P 0 ⟨4, by decide⟩ ∗ P 0 ⟨5, by decide⟩ ∗ P 0 ⟨6, by decide⟩ ∗ P 0 ⟨7, by decide⟩ ∗ P 0 ⟨8, by decide⟩ ∗ P 0 ⟨9, by decide⟩ ∗ P 1 ⟨0, by decide⟩ ∗ P 1 ⟨1, by decide⟩ ∗ P 1 ⟨2, by decide⟩ ∗ P 1 ⟨3, by decide⟩ ∗ P 1 ⟨4, by decide⟩ ∗ P 1 ⟨5, by decide⟩ ∗ P 1 ⟨6, by decide⟩ ∗ P 1 ⟨7, by decide⟩ ∗ P 1 ⟨8, by decide⟩ ∗ P 1 ⟨9, by decide⟩) := rfl

theorem twenty_split (P : Fin 2 → Fin 10 → sProp 𝕄) :
    twenty (fun k => P (slotNo k) (partNo k)) ⊢ iprop(ten (P 0) ∗ ten (P 1)) := by
  rw [twenty_eq]
  unfold ten
  iintro ⟨H0, H1, H2, H3, H4, H5, H6, H7, H8, H9, H10, H11, H12, H13, H14, H15, H16, H17, H18, H19⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem twenty_join (P : Fin 2 → Fin 10 → sProp 𝕄) :
    iprop(ten (P 0) ∗ ten (P 1)) ⊢ twenty (fun k => P (slotNo k) (partNo k)) := by
  rw [twenty_eq]
  unfold ten
  iintro ⟨⟨H0, H1, H2, H3, H4, H5, H6, H7, H8, H9⟩, ⟨H10, H11, H12, H13, H14, H15, H16, H17, H18, H19⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem ten_sep (P Q : Fin 10 → sProp 𝕄) : iprop(ten P ∗ ten Q) ⊢ ten (fun s => iprop(P s ∗ Q s)) := by
  unfold ten
  iintro ⟨⟨A0, A1, A2, A3, A4, A5, A6, A7, A8, A9⟩, ⟨B0, B1, B2, B3, B4, B5, B6, B7, B8, B9⟩⟩
  isplitl [A0 B0]; · (isplitl [A0]; · iexact A0); iexact B0
  isplitl [A1 B1]; · (isplitl [A1]; · iexact A1); iexact B1
  isplitl [A2 B2]; · (isplitl [A2]; · iexact A2); iexact B2
  isplitl [A3 B3]; · (isplitl [A3]; · iexact A3); iexact B3
  isplitl [A4 B4]; · (isplitl [A4]; · iexact A4); iexact B4
  isplitl [A5 B5]; · (isplitl [A5]; · iexact A5); iexact B5
  isplitl [A6 B6]; · (isplitl [A6]; · iexact A6); iexact B6
  isplitl [A7 B7]; · (isplitl [A7]; · iexact A7); iexact B7
  isplitl [A8 B8]; · (isplitl [A8]; · iexact A8); iexact B8
  isplitl [A9]; · iexact A9
  iexact B9

theorem ten_unsep (P Q : Fin 10 → sProp 𝕄) : ten (fun s => iprop(P s ∗ Q s)) ⊢ iprop(ten P ∗ ten Q) := by
  unfold ten
  iintro ⟨⟨A0, B0⟩, ⟨A1, B1⟩, ⟨A2, B2⟩, ⟨A3, B3⟩, ⟨A4, B4⟩, ⟨A5, B5⟩, ⟨A6, B6⟩, ⟨A7, B7⟩, ⟨A8, B8⟩, ⟨A9, B9⟩⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9

theorem ten_pick {X : Type} (P : Fin 10 → X → sProp 𝕄) (g0 g1 g2 g3 g4 g5 g6 g7 g8 g9 : X) :
    iprop(P ⟨0, by decide⟩ g0 ∗ P ⟨1, by decide⟩ g1 ∗ P ⟨2, by decide⟩ g2 ∗ P ⟨3, by decide⟩ g3 ∗ P ⟨4, by decide⟩ g4 ∗ P ⟨5, by decide⟩ g5 ∗ P ⟨6, by decide⟩ g6 ∗ P ⟨7, by decide⟩ g7 ∗ P ⟨8, by decide⟩ g8 ∗ P ⟨9, by decide⟩ g9) ⊢ ten (fun s => P s ((![g0, g1, g2, g3, g4, g5, g6, g7, g8, g9] : Fin 10 → X) s)) :=
  BIClass.entails_refl _

/-- Ten existentials are one choice of ten. -/
theorem ten_exists {X : Type} (P : Fin 10 → X → sProp 𝕄) : ten (fun s => iprop(∃ g, P s g)) ⊢ iprop(∃ g : Fin 10 → X, ten (fun s => P s (g s))) := by
  rw [show ten (fun s => iprop(∃ g, P s g)) = iprop((∃ g, P ⟨0, by decide⟩ g) ∗ (∃ g, P ⟨1, by decide⟩ g) ∗ (∃ g, P ⟨2, by decide⟩ g) ∗ (∃ g, P ⟨3, by decide⟩ g) ∗ (∃ g, P ⟨4, by decide⟩ g) ∗ (∃ g, P ⟨5, by decide⟩ g) ∗ (∃ g, P ⟨6, by decide⟩ g) ∗ (∃ g, P ⟨7, by decide⟩ g) ∗ (∃ g, P ⟨8, by decide⟩ g) ∗ (∃ g, P ⟨9, by decide⟩ g)) from rfl]
  iintro ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩⟩
  iexists ![g0, g1, g2, g3, g4, g5, g6, g7, g8, g9]
  iapply (ten_pick P g0 g1 g2 g3 g4 g5 g6 g7 g8 g9) $$ [H0 H1 H2 H3 H4 H5 H6 H7 H8 H9]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The slab -/

abbrev regNo (k : Fin 20) : Finset S2x16000x128.Idx := reg (slotNo k) (partNo k)

theorem regNo_disjoint (k k' : Fin 20) (h : k ≠ k') : Disjoint (regNo k) (regNo k') := by
  rw [Finset.disjoint_left]
  intro x hx hx'
  have h1 := mem_reg.mp hx
  have h2 := mem_reg.mp hx'
  apply h
  apply Fin.ext
  have a := h1.1.symm.trans h2.1
  have b := h1.2.symm.trans h2.2
  have a' : k.val / 10 = k'.val / 10 := a
  have b' : k.val % 10 = k'.val % 10 := b
  omega

theorem regNo_cover : (Finset.univ : Finset (Fin 20)).biUnion regNo = Finset.univ := by
  ext x
  simp only [Finset.mem_biUnion, Finset.mem_univ, true_and, iff_true]
  have h0 : (x 0).val < 2 := (x 0).isLt
  have h1 : (x 1).val < 16000 := (x 1).isLt
  refine ⟨⟨10 * (x 0).val + (x 1).val / 1600, by omega⟩, mem_reg.mpr ⟨?_, ?_⟩⟩
  · show (x 0).val = (10 * (x 0).val + (x 1).val / 1600) / 10; omega
  · show (x 1).val / 1600 = (10 * (x 0).val + (x 1).val / 1600) % 10; omega

theorem slab_eq (c : Dev nD) (f : Buf (Elt F) ((c : Thread nD τ).loc cc0_scratch0)) :
    (((c : Thread nD τ).loc cc0_scratch0) ↦{fullShare} f : sProp 𝕄) = twenty (fun k => regPt c (slotNo k) (partNo k) f) := by
  rw [← bigSep_twenty]
  have e := pointsTo_biUnion (Ix := Unit) (Name := ℕ) (U := Pipeline.UD sig nD τ) (Lvl := ℕ) (ℓ := (c : Thread nD τ).loc cc0_scratch0) (q := fullShare) (f := f)
    (Finset.univ : Finset (Fin 20)) regNo (fun k _ k' _ h => regNo_disjoint k k' h)
  rw [regNo_cover] at e
  exact e

theorem slab_join_aux (c : Dev nD) (gs : Fin 20 → S2x16000x128.Idx → Elt F .f32) :
    twenty (fun k => regPt c (slotNo k) (partNo k) (gs k)) ⊢ (iprop(∃ f, ((c : Thread nD τ).loc cc0_scratch0) ↦{fullShare} f) : sProp 𝕄) := by
  rw [← bigSep_twenty]
  have e := pointsTo_biUnion_join (Ix := Unit) (Name := ℕ) (U := Pipeline.UD sig nD τ) (Lvl := ℕ) (ℓ := (c : Thread nD τ).loc cc0_scratch0) (q := fullShare)
    (Finset.univ : Finset (Fin 20)) regNo gs (gs 0) (fun k _ k' _ h => regNo_disjoint k k' h)
  rw [regNo_cover] at e
  refine BIBase.Entails.trans e ?_
  iintro ⟨%g, -, H⟩
  iexists g
  iexact H

theorem slab_split (c : Dev nD) (f : Buf (Elt F) ((c : Thread nD τ).loc cc0_scratch0)) :
    (((c : Thread nD τ).loc cc0_scratch0) ↦{fullShare} f : sProp 𝕄)
      ⊢ iprop(ten (fun s => iprop(∃ g, regPt c 0 s g)) ∗ ten (fun s => iprop(∃ g, regPt c 1 s g))) := by
  rw [slab_eq]
  refine (twenty_split (fun σ s => regPt c σ s f)).trans ?_
  iintro ⟨H, H'⟩
  isplitl [H]
  · iapply (ten_mono (fun s => ?_)) $$ H
    iintro H; iexists f; iexact H
  · iapply (ten_mono (fun s => ?_)) $$ H'
    iintro H; iexists f; iexact H

theorem slab_join (c : Dev nD) :
    iprop(ten (fun s => iprop(∃ g, regPt c 0 s g)) ∗ ten (fun s => iprop(∃ g, regPt c 1 s g)))
      ⊢ (iprop(∃ f, ((c : Thread nD τ).loc cc0_scratch0) ↦{fullShare} f) : sProp 𝕄) := by
  iintro ⟨H, H'⟩
  ihave H := (ten_exists (F := F) (fun s g => regPt c 0 s g)) $$ H
  ihave H' := (ten_exists (F := F) (fun s g => regPt c 1 s g)) $$ H'
  icases H with ⟨%g, H⟩
  icases H' with ⟨%g', H'⟩
  ihave H := (twenty_join (fun σ s => regPt c σ s ((![g, g'] : Fin 2 → Fin 10 → S2x16000x128.Idx → Elt F .f32) σ s))) $$ [H H']
  · isplitl [H]; · iexact H
    iexact H'
  ihave H := (slab_join_aux c (fun k => (![g, g'] : Fin 2 → Fin 10 → S2x16000x128.Idx → Elt F .f32) (slotNo k) (partNo k))) $$ H
  iexact H

/-! ## The features' shares -/

/-- The features at one share. -/
def featPt (c : Dev nD) (q : PosShare TreeShare) : sProp 𝕄 := hbmM.view.loc (c : Thread nD τ) ↦{q} V m c main_arg2

theorem featPt_step (c : Dev nD) (k : ℕ) : featPt m c (restShare k) = iprop(featPt m c (pieceShare k) ∗ featPt m c (restShare (k + 1))) := by
  unfold featPt
  exact BI.Entails.antisymm (pointsTo_share (PosShare.mem_left_op_right (restShare k))).1 (pointsTo_share (PosShare.mem_left_op_right (restShare k))).2

theorem featPt_twenty (c : Dev nD) :
    featPt m c fullShare = iprop(featPt m c (pieceShare 0) ∗ featPt m c (pieceShare 1) ∗ featPt m c (pieceShare 2) ∗ featPt m c (pieceShare 3) ∗ featPt m c (pieceShare 4) ∗ featPt m c (pieceShare 5) ∗ featPt m c (pieceShare 6) ∗ featPt m c (pieceShare 7) ∗ featPt m c (pieceShare 8) ∗ featPt m c (pieceShare 9) ∗ featPt m c (pieceShare 10) ∗ featPt m c (pieceShare 11) ∗ featPt m c (pieceShare 12) ∗ featPt m c (pieceShare 13) ∗ featPt m c (pieceShare 14) ∗ featPt m c (pieceShare 15) ∗ featPt m c (pieceShare 16) ∗ featPt m c (pieceShare 17) ∗ featPt m c (pieceShare 18) ∗ featPt m c (pieceShare 19) ∗ featPt m c (restShare 20)) := by
  rw [show featPt m c fullShare = featPt m c (restShare 0) from rfl]
  rw [featPt_step m c 0, featPt_step m c 1, featPt_step m c 2, featPt_step m c 3, featPt_step m c 4, featPt_step m c 5, featPt_step m c 6, featPt_step m c 7, featPt_step m c 8, featPt_step m c 9, featPt_step m c 10, featPt_step m c 11, featPt_step m c 12, featPt_step m c 13, featPt_step m c 14, featPt_step m c 15, featPt_step m c 16, featPt_step m c 17, featPt_step m c 18, featPt_step m c 19]

theorem ten_src0 (c : Dev nD) : ten (srcPt m c 0) = iprop(featPt m c (pieceShare 0) ∗ featPt m c (pieceShare 1) ∗ featPt m c (pieceShare 2) ∗ featPt m c (pieceShare 3) ∗ featPt m c (pieceShare 4) ∗ featPt m c (pieceShare 5) ∗ featPt m c (pieceShare 6) ∗ featPt m c (pieceShare 7) ∗ featPt m c (pieceShare 8) ∗ featPt m c (pieceShare 9)) := rfl
theorem ten_src1 (c : Dev nD) : ten (srcPt m c 1) = iprop(featPt m c (pieceShare 10) ∗ featPt m c (pieceShare 11) ∗ featPt m c (pieceShare 12) ∗ featPt m c (pieceShare 13) ∗ featPt m c (pieceShare 14) ∗ featPt m c (pieceShare 15) ∗ featPt m c (pieceShare 16) ∗ featPt m c (pieceShare 17) ∗ featPt m c (pieceShare 18) ∗ featPt m c (pieceShare 19)) := rfl

theorem feat_split (c : Dev nD) : featPt m c fullShare ⊢ iprop(featPt m c (restShare 20) ∗ ten (srcPt m c 0) ∗ ten (srcPt m c 1)) := by
  rw [featPt_twenty, ten_src0, ten_src1]
  iintro ⟨H0, H1, H2, H3, H4, H5, H6, H7, H8, H9, H10, H11, H12, H13, H14, H15, H16, H17, H18, H19, HR⟩
  isplitl [HR]; · iexact HR
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem feat_join (c : Dev nD) : iprop(featPt m c (restShare 20) ∗ ten (srcPt m c 0) ∗ ten (srcPt m c 1)) ⊢ featPt m c fullShare := by
  rw [featPt_twenty, ten_src0, ten_src1]
  iintro ⟨HR, ⟨H0, H1, H2, H3, H4, H5, H6, H7, H8, H9⟩, ⟨H10, H11, H12, H13, H14, H15, H16, H17, H18, H19⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact HR

theorem free_eq (c : Dev nD) (σ : Fin 2) :
    ten (Free m c σ) = ten (fun s => iprop(srcPt m c σ s ∗ (∃ g, regPt c σ s g) ∗ semPt c σ s)) := rfl

theorem free_of (c : Dev nD) (σ : Fin 2) :
    iprop(ten (srcPt m c σ) ∗ ten (fun s => iprop(∃ g, regPt c σ s g)) ∗ ten (semPt c σ)) ⊢ ten (Free m c σ) := by
  rw [free_eq]
  iintro ⟨H1, H2, H3⟩
  ihave H := (ten_sep _ _) $$ [H2 H3]
  · isplitl [H2]; · iexact H2
    iexact H3
  iapply (ten_sep (srcPt m c σ) _) $$ [H1 H]
  isplitl [H1]; · iexact H1
  iexact H

theorem of_free (c : Dev nD) (σ : Fin 2) :
    ten (Free m c σ) ⊢ iprop(ten (srcPt m c σ) ∗ ten (fun s => iprop(∃ g, regPt c σ s g)) ∗ ten (semPt c σ)) := by
  rw [free_eq]
  iintro H
  ihave H := (ten_unsep (srcPt m c σ) (fun s => iprop((∃ g, regPt c σ s g) ∗ semPt c σ s))) $$ H
  icases H with ⟨H1, H⟩
  isplitl [H1]; · iexact H1
  iapply (ten_unsep _ _) $$ H

/-! ## The cells -/

abbrev osem0 : Fin 20 → SemLoc sig := fun k => SemLoc.dma (cellIx (slotNo k) (partNo k))
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = twenty (fun k => semPt c (slotNo k) (partNo k)) := by
  rw [Pipeline.ownSems0_eq_of_list c osem0 [(⟨0, by decide⟩ : Fin 20), (⟨1, by decide⟩ : Fin 20), (⟨2, by decide⟩ : Fin 20), (⟨3, by decide⟩ : Fin 20), (⟨4, by decide⟩ : Fin 20), (⟨5, by decide⟩ : Fin 20), (⟨6, by decide⟩ : Fin 20), (⟨7, by decide⟩ : Fin 20), (⟨8, by decide⟩ : Fin 20), (⟨9, by decide⟩ : Fin 20), (⟨10, by decide⟩ : Fin 20), (⟨11, by decide⟩ : Fin 20), (⟨12, by decide⟩ : Fin 20), (⟨13, by decide⟩ : Fin 20), (⟨14, by decide⟩ : Fin 20), (⟨15, by decide⟩ : Fin 20), (⟨16, by decide⟩ : Fin 20), (⟨17, by decide⟩ : Fin 20), (⟨18, by decide⟩ : Fin 20), (⟨19, by decide⟩ : Fin 20)] (by decide) (by decide)]; rfl

/-- The buffer the body's transfers read. -/
def H0 : Finset (Ref sig .tc) := {main_arg2}
theorem H0_sub : H0 ⊆ Pipeline.restRefs sig spec0 := by decide
theorem hbmPts0_eq (c : Dev nD) : (bigSep H0 (fun b => ((c : Thread nD τ).loc b) ↦{fullShare} V m c b) : sProp 𝕄) = featPt m c fullShare := by
  rw [BI.bigSep_eq_bigSepL_of_eq [main_arg2] (by decide) (by decide)]; rfl

/-! ## The invariant -/

/-- Between points: the generator register, the share of the features no transfer takes, and the slab's state. -/
def Inv (c : Dev nD) (n : ℕ) : sProp 𝕄 := iprop((∃ r, prngReg c r) ∗ featPt m c (restShare 20) ∗ Bef m c n)

theorem enter (c : Dev nD) : Pipeline.ΦD osem0 spec0 H0 (V m) c ⊢ Inv m c 0 := by
  rw [Pipeline.ΦD_eq, scopedRest0_eq, ownSems00_eq, hbmPts0_eq]
  unfold Inv Bef Oth
  rw [if_pos rfl]
  iintro ⟨⟨%f, HS⟩, Hg, Hq, Hh⟩
  isplitl [Hg]; · iexact Hg
  ihave HS := (slab_split c f) $$ HS
  ihave Hq := (twenty_split (fun σ s => semPt (F := F) c σ s)) $$ Hq
  ihave Hh := (feat_split m c) $$ Hh
  icases HS with ⟨HS, HS'⟩
  icases Hq with ⟨Hq, Hq'⟩
  icases Hh with ⟨HR, Hh, Hh'⟩
  isplitl [HR]; · iexact HR
  isplitl [HS Hq Hh]
  · iapply (free_of m c 0) $$ [HS Hq Hh]
    isplitl [Hh]; · iexact Hh
    isplitl [HS]; · iexact HS
    iexact Hq
  · iapply (free_of m c 1) $$ [HS' Hq' Hh']
    isplitl [Hh']; · iexact Hh'
    isplitl [HS']; · iexact HS'
    iexact Hq'

theorem leave (c : Dev nD) : Inv m c 33 ⊢ Pipeline.ΦD osem0 spec0 H0 (V m) c := by
  rw [Pipeline.ΦD_eq, scopedRest0_eq, ownSems00_eq, hbmPts0_eq]
  unfold Inv Bef Oth
  rw [if_neg (by decide), if_neg (by decide), show slotOf 33 = 1 from rfl, show slotOf (33 - 1) = 0 from rfl]
  iintro ⟨Hg, HR, H1, H0⟩
  ihave H0 := (of_free m c 0) $$ H0
  ihave H1 := (of_free m c 1) $$ H1
  icases H0 with ⟨Hh, HS, Hq⟩
  icases H1 with ⟨Hh', HS', Hq'⟩
  isplitl [HS HS']
  · iapply (slab_join c) $$ [HS HS']
    isplitl [HS]; · iexact HS
    iexact HS'
  isplitl [Hg]; · iexact Hg
  isplitl [Hq Hq']
  · iapply (twenty_join (fun σ s => semPt (F := F) c σ s)) $$ [Hq Hq']
    isplitl [Hq]; · iexact Hq
    iexact Hq'
  iapply (feat_join m c) $$ [HR Hh Hh']
  isplitl [HR]; · iexact HR
  isplitl [Hh]; · iexact Hh
  iexact Hh'

end Cert.KernelIdeal.Hand

end
-- ==== Proof.KernelIdeal.Run.lean ====
/-
  The run of the kernel: the proof data, the body's obligation at every grid point, the launch, the frame, and what the result
  array holds at the end — every block of it what the point after it stored.
-/
module

public import proofs.«01_k».proof.Proof.KernelIdeal.Steps
public import proofs.«01_k».proof.Proof.KernelIdeal.Entry
public import proofs.«01_k».proof.Proof.Gen.KernelIdeal.Launch
public import proofs.«01_k».proof.Proof.Gen.KernelIdeal.Points
public import Idealize.ShloMosaic.Lib.Pipeline.FrameBody
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Rounds
open Idealize.ShloMosaic.Pipeline (Dat RDat Cfg Window BodyObligation BodyObligationRel cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the region: the host operations, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The block point `t` stores, when the regions hold the second neighbours of the point before it. -/
def outAt (c : Dev nD) (t : Fin cfg0.N) : FVec F S64x1 .f32 :=
  outBlk (fun s => part m c (t.val - 1) s) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The proof data: the arrays as the region finds them, every operand's block left as it was, the state of the slab
    between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c t
  Φ t := Inv m c t.val
  q _ := fullShare
  owed _ := 0

/-- The window whose block is described by a predicate: the result's. -/
def fgt (w : Fin cfg0.W) : Bool := match w with
  | ⟨14, _⟩ => true
  | _ => false

/-- What the result's window holds after a point: at every point but the first, the block that point stores. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun _ => True
  | ⟨11, _⟩ => fun _ => True
  | ⟨12, _⟩ => fun _ => True
  | ⟨13, _⟩ => fun _ => True
  | ⟨14, _⟩ => fun X => t.val ≠ 0 → X = outAt m c t

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem after0_12 (c : Dev nD) (t : Fin cfg0.N) : (dats m 0 c).after 12 t = iblk m c 12 t := by dsimp only [dats]
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem after0_13 (c : Dev nD) (t : Fin cfg0.N) : (dats m 0 c).after 13 t = iblk m c 13 t := by dsimp only [dats]
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d))
    ∗ (∃ Y, ⌜((dats m 0 c).toRRel fgt (Rl m c)).Finds 14 t Y⌝ ∗ owns (c : Thread nD τ) (st0_14 t) fullShare Y))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t)
    ∗ (∃ X, ⌜Rl m c 14 t X⌝ ∗ owns (c : Thread nD τ) (st0_14 t) fullShare X))

/-- What is stored is `outAt` when the regions held what they should. -/
theorem out_good (c : Dev nD) (t : Fin cfg0.N) (u : Fin 10 → Vec F S1x1600x128 .f32) (hu : ∀ s, Good m c ((grid0.coords t) 0).val s (u s)) :
    Rl m c 14 t (outBlk u (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  intro h0
  have e : u = fun s => part m c (t.val - 1) s := by
    funext s
    have := hu s
    rw [coords_val] at this
    exact this h0
  rw [e]; rfl

set_option maxHeartbeats 4000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.castSucc = Inv m c t.val from rfl, show (dats m 0 c).Φ t.succ = Inv m c (t.val + 1) from rfl]
  unfold Dat.owesAt Pipeline.owesWithin
  rw [show (dats m 0 c).owed t.castSucc = 0 from rfl, show (dats m 0 c).owed t.succ = 0 from rfl]
  simp only [before0_0, before0_1, before0_2, before0_3, before0_4, before0_5, before0_6, before0_7, before0_8, before0_9, before0_10, before0_11, before0_12, before0_13, after0_0, after0_1, after0_2, after0_3, after0_4, after0_5, after0_6, after0_7, after0_8, after0_9, after0_10, after0_11, after0_12, after0_13]
  unfold Inv
  rw [← coords_val t]
  iintro ⟨⟨Hg, HR, HB⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%Y, -, W14⟩⟩
  iapply (body_spec m c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _) $$ [HB HW W0 W1 W2 W3 W4 W5 W6 W7 W8 W9 W10 W11 W12 W13 W14]
  · isplitl [HB]; · iexact HB
    isplitl [HW]; · iexists W; iexact HW
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    iexists Y; iexact W14
  iintro %u %hu HB ⟨%W', HW⟩ W0 W1 W2 W3 W4 W5 W6 W7 W8 W9 W10 W11 W12 W13 W14
  isplitl [Hg HR HB]
  · isplitl [Hg]; · iexact Hg
    isplitl [HR]; · iexact HR
    iexact HB
  isplitl [HW]
  · iexists W'; isplitr; · ipureintro; exact fun _ _ => Or.inl trivial
    iexact HW
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  iexists (outBlk u (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
  isplitr
  · ipureintro; exact out_good m c t u hu
  iexact W14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.RDat.FramePost cfg0 (fun c => (dats m 0 c).toRRel fgt (Rl m c)) (V m) r ∧ r.2.sem = fun _ => 0) :=
  Pipeline.RDat.θ_run_frame_dma (Q' := _) cfgs (0 : Fin 1) launch0 osem0 defs₀ Variants.none (fun c => (dats m 0 c).toRRel fgt (Rl m c)) ownSemFacts0 H0 H0_sub m ρ main
    (hbody := fun c => (body_obligation m c).toRRel) (hshare := fun c => (dats m 0 c).share_full fun _ => rfl)
    (howed := fun _ _ => rfl) (V := V m) (hmain := hmainD m Variants.none) (hA := A_eq m)
    (hin := enter m) (hout := leave m)

set_option backward.isDefEq.respectTransparency.types false in
theorem arg_in (w : Fin cfg0.W) (hw : (cfg0.spec w).isOut = false) (r : PUnit × MemSt nD τ sig (Elt F))
    (h : Pipeline.RDat.FramePost cfg0 (fun c => (dats m 0 c).toRRel fgt (Rl m c)) (V m) r) (c : Dev nD) :
    r.2.mem (((cfg0.spec w).arr).view.loc (c : Thread nD τ)) = V m c (Pipeline.arrRef spec0 w) :=
  (Pipeline.RDat.FramePost.arr_in h c w hw).trans (A_eq m c w)

set_option maxHeartbeats 1600000 in
/-- What the run leaves: the arguments as they were, the result array at block contents that meet the predicate, every
    counter at zero. -/
theorem run_post : θ_run defs (onTc (τ := τ) (main (F := F))) ⟨m, fun _ => 0, ρ⟩ (fun r => (∀ c : Dev nD,
      (∃ after : (w : Fin cfg0.W) → (t : Fin cfg0.N) → (cfg0.win w).block.Idx → Elt F (cfg0.win w).elt,
        (∀ t, (cfg0.win 14).flush t = true → t.val ≠ 0 → after 14 t = outAt m c t)
          ∧ r.2.mem ((c.tc : Thread nD τ).loc main_v61) = (((dats m 0 c).toRRel fgt (Rl m c)).withAfter after).arrAt 14 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r (h : _ ∧ _) => ⟨fun c => ⟨by
      obtain ⟨af, h1, h2⟩ := Pipeline.RDat.FramePost.exists_exact h.1 c
      exact ⟨af, fun t ht h0 => (dats m 0 c).toRRel_leaves (fgt := fgt) (Rl := Rl m c) (w := 14) rfl (h1 14 t ht) h0, h2 14⟩,
      (arg_in m 0 rfl r h.1 c).trans (V_main_arg0 m c),
      (arg_in m 1 rfl r h.1 c).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (arg_in m 12 rfl r h.1 c).trans (V_main_arg7 m c),
      ((h.1 c).2 main_arg8 (Pipeline.mem_restRefs_of main_arg8 (by decide) (by decide))).trans (V_main_arg8 m c)⟩, h.2⟩) (run_main m ρ)

end Cert.KernelIdeal.Hand

end
-- ==== Proof.Value.Spec.lean ====
module

public import Idealize.ShloMosaic.Lib.Pointwise
public import Idealize.ShloMosaic.Lib.IdealHost

@[expose] public section

/-!
# The layer over the reals

What both programs compute from finite inputs, written over the real numbers, one row at a time: the first
attention layer of one neighbour, the second attention layer of one node. With it, the small facts by which a term
over the extended reals whose leaves are finite is a real number.
-/

noncomputable section

open Idealize.ShloMosaic

namespace Cert.Gat

/-- The slope the activation of a score has below zero: the f32 nearest to one fifth. -/
def slope : ℝ := 13421773 / 67108864

/-- The leaky activation of a score. -/
def lk (x : ℝ) : ℝ := max x (slope * x)

/-- The activation of a first-layer output. -/
def elu (x : ℝ) : ℝ := max x (Real.exp (min x 0) - 1)

/-- The weighted mean with weights `exp (lk (x s))`. -/
def soft {n : ℕ} (x h : Fin n → ℝ) : ℝ :=
  (∑ s, Real.exp (lk (x s)) * h s) / ∑ s, Real.exp (lk (x s))

/-- One row of features times one column of weights. -/
def h1 (w : Fin 128 → Fin 16 → ℝ) (x : Fin 128 → ℝ) (o : Fin 16) : ℝ := ∑ f, x f * w f o

/-- The first layer's score of one second-hop neighbour. -/
def sc1 (w : Fin 128 → Fin 16 → ℝ) (al ar : Fin 16 → ℝ) (x nb : Fin 128 → ℝ) : ℝ :=
  (∑ o, h1 w x o * al o) + ∑ o, h1 w nb o * ar o

/-- The first layer's output of one neighbour, one head, one feature. -/
def g1 (w : Fin 128 → Fin 16 → ℝ) (al ar : Fin 16 → ℝ) (x : Fin 128 → ℝ) (nb : Fin 10 → Fin 128 → ℝ)
    (o : Fin 16) : ℝ :=
  elu (soft (fun s => sc1 w al ar x (nb s)) fun s => h1 w (nb s) o)

/-- The second layer's features of one row. -/
def h2 (w : Fin 64 → Fin 32 → ℝ) (x : Fin 64 → ℝ) (o : Fin 32) : ℝ := ∑ q, x q * w q o

/-- The second layer's score of one neighbour. -/
def sc2 (w : Fin 64 → Fin 32 → ℝ) (cl cr : Fin 32 → ℝ) (x g : Fin 64 → ℝ) : ℝ :=
  (∑ o, h2 w x o * cl o) + ∑ o, h2 w g o * cr o

/-- The second layer's output of one node. -/
def out2 (w : Fin 64 → Fin 32 → ℝ) (cl cr : Fin 32 → ℝ) (x : Fin 64 → ℝ) (g : Fin 25 → Fin 64 → ℝ)
    (o : Fin 32) : ℝ :=
  soft (fun j => sc2 w cl cr x (g j)) fun j => h2 w (g j) o

/-- The final logistic of one node: the only place the two unconstrained arrays enter. -/
def fin (r : Fin 32 → ℝ) (wl : Fin 32 → EReal) (b : EReal) : EReal :=
  Ideal.div 1 (1 + Ideal.exp (-((∑ o, (r o : EReal) * wl o) + b)))

/-! ## Finite terms over the extended reals are real numbers -/

/-- A finite sum of real numbers. -/
theorem csum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient by a real number that is not zero. -/
theorem cdiv (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The larger of two real numbers. -/
theorem cmax (x y : ℝ) : max (x : EReal) (y : EReal) = ((max x y : ℝ) : EReal) :=
  (EReal.coe_strictMono.monotone.map_max).symm

/-- The smaller of two real numbers. -/
theorem cmin (x y : ℝ) : min (x : EReal) (y : EReal) = ((min x y : ℝ) : EReal) :=
  (EReal.coe_strictMono.monotone.map_min).symm

/-- A difference from one. -/
theorem csub_one (x : ℝ) : (x : EReal) - 1 = ((x - 1 : ℝ) : EReal) := by
  rw [EReal.coe_sub, EReal.coe_one]

/-- The clamp of the scores, sixty. -/
theorem ofBits_sixty : Ideal.ofBits .f32 0x42700000#32 = ((60 : ℝ) : EReal) := by
  simp [Ideal.ofBits, Ideal.ieee]; rw [← EReal.coe_mul]; norm_num

/-- The slope's pattern. -/
theorem ofBits_slope : Ideal.ofBits .f32 0x3E4CCCCD#32 = ((slope : ℝ) : EReal) := by
  simp [Ideal.ofBits, Ideal.ieee, slope]; rw [← EReal.coe_mul]; norm_num

/-- Minus infinity's pattern. -/
theorem ofBits_ninf : Ideal.ofBits .f32 0xFF800000#32 = ⊥ := by
  simp [Ideal.ofBits, Ideal.ieee]

/-- Infinity's pattern. -/
theorem ofBits_pinf : Ideal.ofBits .f32 0x7F800000#32 = ⊤ := by
  simp [Ideal.ofBits, Ideal.ieee]

/-! ## The activations, as the programs spell them -/

/-- The score's activation as a choice by sign. -/
theorem lk_select (x : ℝ) : (if 0 ≤ x then x else slope * x) = lk x := by
  unfold lk slope
  split_ifs with h
  · rw [max_eq_left]; nlinarith
  · rw [max_eq_right]; push Not at h; nlinarith

/-- A score at most sixty stays so under the activation. -/
theorem lk_le (x : ℝ) (h : x ≤ 60) : lk x ≤ 60 := by
  unfold lk slope
  refine max_le h ?_
  by_cases h0 : 0 ≤ x
  · nlinarith
  · push Not at h0; nlinarith

/-- The output's activation as a choice by sign. -/
theorem elu_select (x : ℝ) : (if 0 < x then x else Real.exp (min x 0) - 1) = elu x := by
  unfold elu
  split_ifs with h
  · rw [max_eq_left]; rw [min_eq_right h.le, Real.exp_zero]; linarith
  · rw [max_eq_right]; push Not at h; rw [min_eq_left h]; linarith [Real.add_one_le_exp x]

/-- The output's activation with the exponential's argument chosen by sign. -/
theorem elu_select' (x : ℝ) : (if 0 < x then x else Real.exp (if 0 < x then 0 else x) - 1) = elu x := by
  rw [← elu_select]
  split_ifs with h
  · rfl
  · push Not at h; rw [min_eq_left h]

/-- The score's activation over the extended reals. -/
theorem clk (x : ℝ) : (if (0 : EReal) ≤ (x : EReal) then (x : EReal) else (slope : EReal) * (x : EReal)) = ((lk x : ℝ) : EReal) := by
  rw [← lk_select, ← EReal.coe_mul, ← EReal.coe_zero]
  simp only [EReal.coe_le_coe_iff]
  split_ifs <;> rfl

/-- The output's activation over the extended reals. -/
theorem celu (x : ℝ) : (if (0 : EReal) < (x : EReal) then (x : EReal) else Ideal.exp (min (x : EReal) 0) - 1) = ((elu x : ℝ) : EReal) := by
  rw [← elu_select, ← EReal.coe_zero, cmin, Ideal.exp_coe, csub_one]
  simp only [EReal.coe_lt_coe_iff]
  split_ifs <;> rfl

/-- The output's activation over the extended reals, the argument chosen by sign. -/
theorem celu' (x : ℝ) : (if (0 : EReal) < (x : EReal) then (x : EReal)
    else Ideal.exp (if (0 : EReal) < (x : EReal) then 0 else (x : EReal)) - 1) = ((elu x : ℝ) : EReal) := by
  rw [← elu_select', ← EReal.coe_zero]
  simp only [EReal.coe_lt_coe_iff]
  split_ifs
  · rfl
  · rw [Ideal.exp_coe, csub_one]

/-! ## The weighted mean -/

/-- The sum of the weights is positive. -/
theorem den_pos {n : ℕ} [NeZero n] (x : Fin n → ℝ) : 0 < ∑ s, Real.exp (x s) :=
  Finset.sum_pos (fun _ _ => Real.exp_pos _) ⟨0, Finset.mem_univ _⟩

/-- The weights divided one by one: the mean. -/
theorem soft_each {n : ℕ} (x h : Fin n → ℝ) :
    (∑ s, Real.exp (lk (x s)) / (∑ l, Real.exp (lk (x l))) * h s) = soft x h := by
  unfold soft
  rw [Finset.sum_div]
  exact Finset.sum_congr rfl fun s _ => by ring

/-- Subtracting one number from every exponent does not change the mean. -/
theorem soft_shift {n : ℕ} (x h : Fin n → ℝ) (M : ℝ) :
    (∑ s, Real.exp (lk (x s) - M) / (∑ l, Real.exp (lk (x l) - M)) * h s) = soft x h := by
  rw [← soft_each]
  refine Finset.sum_congr rfl fun s _ => ?_
  congr 1
  simp only [Real.exp_sub]
  rw [← Finset.sum_div, div_div_div_cancel_right₀ (Real.exp_ne_zero M)]

/-- The largest of finitely many real numbers, at least one of them, is a real number. -/
theorem foldmax {n : ℕ} [NeZero n] (f : Fin n → ℝ) :
    ∃ M : ℝ, Finset.univ.fold max (⊥ : EReal) (fun s => (f s : EReal)) = (M : EReal) := by
  classical
  have key : ∀ s : Finset (Fin n), s.fold max (⊥ : EReal) (fun s => (f s : EReal)) = ⊥ ∧ s = ∅ ∨
      ∃ M : ℝ, s.fold max (⊥ : EReal) (fun s => (f s : EReal)) = (M : EReal) := by
    intro s
    induction s using Finset.induction_on with
    | empty => exact .inl ⟨rfl, rfl⟩
    | insert a s ha ih =>
      right
      rw [Finset.fold_insert ha]
      rcases ih with ⟨h, -⟩ | ⟨M, h⟩
      · exact ⟨f a, by rw [h]; exact max_eq_left bot_le⟩
      · exact ⟨max (f a) M, by rw [h, cmax]⟩
  rcases key Finset.univ with ⟨-, h⟩ | h
  · exact absurd h (Finset.univ_nonempty (α := Fin n)).ne_empty
  · exact h

end Cert.Gat
-- ==== Proof.Value.Idx.lean ====
module

public import proofs.«01_k».proof.Proof.Value.Spec

@[expose] public section

/-!
# The columns of the kernel's matrices, taken apart, and the sums the helper matrices select

A column of the first layer's output is `16 k + o` (head, feature), a score's `10 k + s` (head, neighbour), a
neighbour feature's `64 s + q` (neighbour, output column); a row of a block of neighbours is `25 b + j` (node,
neighbour). Each helper matrix is zero but where two such parts agree, and the sum against it keeps the rest.
-/

noncomputable section

open Idealize.ShloMosaic

namespace Cert.Gat

/-- The head of an output column. -/
def qk (q : Fin 64) : Fin 4 := ⟨q.val / 16, by omega⟩
/-- The feature of an output column. -/
def qo (q : Fin 64) : Fin 16 := ⟨q.val % 16, by omega⟩
/-- The output column of a head and a feature. -/
def qmk (k : Fin 4) (o : Fin 16) : Fin 64 := ⟨k.val * 16 + o.val, by omega⟩
/-- The head of a score column. -/
def jk (j : Fin 40) : Fin 4 := ⟨j.val / 10, by omega⟩
/-- The neighbour of a score column. -/
def js (j : Fin 40) : Fin 10 := ⟨j.val % 10, by omega⟩
/-- The score column of a head and a neighbour. -/
def jmk (k : Fin 4) (s : Fin 10) : Fin 40 := ⟨k.val * 10 + s.val, by omega⟩
/-- The neighbour of a feature column. -/
def cs (c : Fin 640) : Fin 10 := ⟨c.val / 64, by omega⟩
/-- The output column of a feature column. -/
def cq (c : Fin 640) : Fin 64 := ⟨c.val % 64, by omega⟩
/-- The feature column of a neighbour and an output column. -/
def cmk (s : Fin 10) (q : Fin 64) : Fin 640 := ⟨s.val * 64 + q.val, by omega⟩
/-- The node of a row. -/
def rb (n : Fin 1600) : Fin 64 := ⟨n.val / 25, by omega⟩
/-- The neighbour of a row. -/
def rj (n : Fin 1600) : Fin 25 := ⟨n.val % 25, by omega⟩
/-- The row of a node and a neighbour. -/
def rmk (b : Fin 64) (j : Fin 25) : Fin 1600 := ⟨b.val * 25 + j.val, by omega⟩

theorem qk_qmk (k : Fin 4) (o : Fin 16) : qk (qmk k o) = k := by ext; simp only [qk, qmk]; omega
theorem qo_qmk (k : Fin 4) (o : Fin 16) : qo (qmk k o) = o := by ext; simp only [qo, qmk]; omega
theorem qmk_eta (q : Fin 64) : qmk (qk q) (qo q) = q := by ext; simp only [qk, qo, qmk]; omega
theorem jk_jmk (k : Fin 4) (s : Fin 10) : jk (jmk k s) = k := by ext; simp only [jk, jmk]; omega
theorem js_jmk (k : Fin 4) (s : Fin 10) : js (jmk k s) = s := by ext; simp only [js, jmk]; omega
theorem jmk_eta (j : Fin 40) : jmk (jk j) (js j) = j := by ext; simp only [jk, js, jmk]; omega
theorem cs_cmk (s : Fin 10) (q : Fin 64) : cs (cmk s q) = s := by ext; simp only [cs, cmk]; omega
theorem cq_cmk (s : Fin 10) (q : Fin 64) : cq (cmk s q) = q := by ext; simp only [cq, cmk]; omega
theorem cmk_eta (c : Fin 640) : cmk (cs c) (cq c) = c := by ext; simp only [cs, cq, cmk]; omega
theorem rb_rmk (b : Fin 64) (j : Fin 25) : rb (rmk b j) = b := by ext; simp only [rb, rmk]; omega
theorem rj_rmk (b : Fin 64) (j : Fin 25) : rj (rmk b j) = j := by ext; simp only [rj, rmk]; omega
theorem rmk_eta (n : Fin 1600) : rmk (rb n) (rj n) = n := by ext; simp only [rb, rj, rmk]; omega

/-- A sum over the output columns, by head and feature. -/
theorem sum_q (f : Fin 64 → ℝ) : ∑ q, f q = ∑ k, ∑ o, f (qmk k o) := Fin.sum_univ_tiles 4 16 rfl f
/-- A sum over the score columns, by head and neighbour. -/
theorem sum_j (f : Fin 40 → ℝ) : ∑ j, f j = ∑ k, ∑ s, f (jmk k s) := Fin.sum_univ_tiles 4 10 rfl f
/-- A sum over the feature columns, by neighbour and output column. -/
theorem sum_c (f : Fin 640 → ℝ) : ∑ c, f c = ∑ s, ∑ q, f (cmk s q) := Fin.sum_univ_tiles 10 64 rfl f
/-- A sum over the rows, by node and neighbour. -/
theorem sum_n (f : Fin 1600 → ℝ) : ∑ n, f n = ∑ b, ∑ j, f (rmk b j) := Fin.sum_univ_tiles 64 25 rfl f

/-- One, where a statement holds. -/
def ind (p : Prop) [Decidable p] : ℝ := if p then 1 else 0

/-- The sum against the matrix that weighs one head's features of one neighbour. -/
theorem sum_r (H : Fin 640 → ℝ) (ar : Fin 4 → Fin 16 → ℝ) (j : Fin 40) :
    ∑ c, H c * (ar (qk (cq c)) (qo (cq c)) * ind (qk (cq c) = jk j) * ind (cs c = js j))
      = ∑ o, H (cmk (js j) (qmk (jk j) o)) * ar (jk j) o := by
  rw [sum_c, Finset.sum_eq_single (js j)]
  · rw [sum_q, Finset.sum_eq_single (jk j)]
    · refine Finset.sum_congr rfl fun o _ => ?_
      simp [cs_cmk, cq_cmk, qk_qmk, qo_qmk, ind]
    · intro k _ hk
      exact Finset.sum_eq_zero fun o _ => by simp [cs_cmk, cq_cmk, qk_qmk, qo_qmk, ind, hk]
    · simp
  · intro s _ hs
    exact Finset.sum_eq_zero fun q _ => by simp [cs_cmk, cq_cmk, ind, hs]
  · simp

/-- The sum against the matrix that adds one head's columns. -/
theorem sum_4 (P : Fin 40 → ℝ) (k : Fin 4) : ∑ j, P j * ind (jk j = k) = ∑ s, P (jmk k s) := by
  rw [sum_j, Finset.sum_eq_single k]
  · exact Finset.sum_congr rfl fun s _ => by simp [jk_jmk, ind]
  · intro k' _ hk
    exact Finset.sum_eq_zero fun s _ => by simp [jk_jmk, ind, hk]
  · simp

/-- The sum against the matrix that spreads a score over its features. -/
theorem sum_b (P : Fin 40 → ℝ) (c : Fin 640) :
    ∑ j, P j * (ind (jk j = qk (cq c)) * ind (js j = cs c)) = P (jmk (qk (cq c)) (cs c)) := by
  rw [Finset.sum_eq_single (jmk (qk (cq c)) (cs c))]
  · simp [jk_jmk, js_jmk, ind]
  · intro j _ hj
    by_cases h : jk j = qk (cq c)
    · by_cases h' : js j = cs c
      · exact absurd (by rw [← h, ← h', jmk_eta]) hj
      · simp [ind, h']
    · simp [ind, h]
  · simp

/-- The sum against the matrix that spreads a head's number over its columns. -/
theorem sum_bc (D : Fin 4 → ℝ) (q : Fin 64) : ∑ k, D k * ind (k = qk q) = D (qk q) := by
  rw [Finset.sum_eq_single (qk q)]
  · simp [ind]
  · intro k _ hk; simp [ind, hk]
  · simp

/-- The sum against the matrix that adds the neighbours up. -/
theorem sum_slab (W : Fin 640 → ℝ) (q : Fin 64) : ∑ c, W c * ind (cq c = q) = ∑ s, W (cmk s q) := by
  rw [sum_c]
  refine Finset.sum_congr rfl fun s _ => ?_
  rw [Finset.sum_eq_single q]
  · simp [cq_cmk, ind]
  · intro q' _ hq; simp [cq_cmk, ind, hq]
  · simp

/-- The sum that gathers one node's neighbours into a row. -/
theorem sum_seg (E : Fin 1600 → ℝ) (b : Fin 64) (j : Fin 25) :
    ∑ n, ind (rb n = b) * (E n * ind (rj n = j)) = E (rmk b j) := by
  rw [Finset.sum_eq_single (rmk b j)]
  · simp [rb_rmk, rj_rmk, ind]
  · intro n _ hn
    by_cases h : rb n = b
    · by_cases h' : rj n = j
      · exact absurd (by rw [← h, ← h', rmk_eta]) hn
      · simp [ind, h']
    · simp [ind, h]
  · simp

/-- The sum that adds one node's neighbours up. -/
theorem sum_own (A : Fin 25 → ℝ) (H : Fin 1600 → ℝ) (b : Fin 64) :
    ∑ n, A (rj n) * ind (rb n = b) * H n = ∑ j, A j * H (rmk b j) := by
  rw [sum_n, Finset.sum_eq_single b]
  · exact Finset.sum_congr rfl fun j _ => by simp [rb_rmk, rj_rmk, ind]
  · intro b' _ hb
    exact Finset.sum_eq_zero fun j _ => by simp [rb_rmk, ind, hb]
  · simp

end Cert.Gat
-- ==== Proof.Value.Heads.lean ====
module

public import proofs.«01_k».proof.Proof.Value.Idx

@[expose] public section

/-!
# The attention vectors' halves, and the rows both programs share
-/

noncomputable section

namespace Cert.Gat

/-- The left half of a head's attention vector. -/
def al (a : Fin 4 → Fin 32 → ℝ) (k : Fin 4) (o : Fin 16) : ℝ := a k ⟨o.val, by omega⟩
/-- The right half of a head's attention vector. -/
def ar (a : Fin 4 → Fin 32 → ℝ) (k : Fin 4) (o : Fin 16) : ℝ := a k ⟨16 + o.val, by omega⟩
/-- The left half of the second layer's attention vector. -/
def cl (a : Fin 64 → ℝ) (o : Fin 32) : ℝ := a ⟨o.val, by omega⟩
/-- The right half of the second layer's attention vector. -/
def cr (a : Fin 64 → ℝ) (o : Fin 32) : ℝ := a ⟨32 + o.val, by omega⟩

/-- The row of first-layer outputs of one neighbour. -/
def grow (x1 : Fin 51200 → Fin 128 → ℝ) (x2 : Fin 51200 → Fin 10 → Fin 128 → ℝ)
    (w : Fin 4 → Fin 128 → Fin 16 → ℝ) (a : Fin 4 → Fin 32 → ℝ) (n : Fin 51200) (q : Fin 64) : ℝ :=
  g1 (w (qk q)) (al a (qk q)) (ar a (qk q)) (x1 n) (x2 n) (qo q)

/-- The row of a node's neighbour among all neighbours. -/
def nrow (i : Fin 2048) (j : Fin 25) : Fin 51200 := ⟨i.val * 25 + j.val, by omega⟩

end Cert.Gat
-- ==== Proof.Value.Tame.lean ====
module

public import proofs.«01_k».proof.Defs
public import proofs.«01_k».proof.Proof.Value.Heads
public import Idealize.ShloMosaic.Lib.ReduceAll

@[expose] public section

set_option maxRecDepth 16384

/-!
# What the precondition says

The precondition's shape facts, and its reading: the seven arrays the layers are computed from hold real numbers, and
the scores of both layers are at most sixty.
-/

noncomputable section

open Idealize.ShloMosaic Idealize.ShloMosaic.TcCoe Idealize.SL.Sem

namespace Cert.Pre_tame

open Cert.Gat Facts

/-- The shape facts the precondition is stated with. -/
instance facts : Facts := by
  constructor <;> decide +kernel

/-- The neighbours' features. -/
def feat (x3 : FVec Ideal S4x128x16 .f32) (x2 : FVec Ideal S51200x10x128 .f32) : FVec Ideal S4x51200x10x16 .f32 :=
  transpose S4x51200x10x16 [0, 2, 3, 1] (Host.dotGeneral dot_S4x128x16_S51200x10x128_S4x16x51200x10_1_2_02_01_n_n none x3 x2) transposes_S4x16x51200x10_S4x51200x10x16_0_2_3_1

/-- The first layer's scores. -/
def score1 (x1 : FVec Ideal S51200x128 .f32) (hn : FVec Ideal S4x51200x10x16 .f32) (x3 : FVec Ideal S4x128x16 .f32) (x4 : FVec Ideal S4x32 .f32) : FVec Ideal S4x51200x10 .f32 :=
  addf (broadcastInDim S4x51200x10 ![0, 1, 2] bcast_S4x51200x1_S4x51200x10_0_1_2 (broadcastInDim S4x51200x1 ![0, 1] bcast_S4x51200_S4x51200x1_0_1
      (Host.dotGeneral dot_S4x51200x16_S4x16_S4x51200_2_1_1_n_0_0 none (transpose S4x51200x16 [0, 2, 1] (Host.dotGeneral dot_S4x128x16_S51200x128_S4x16x51200_1_1_02_0_n_n none x3 x1) transposes_S4x16x51200_S4x51200x16_0_2_1)
        (extractStridedSlice S4x16 ![0, 0] x4 slices_S4x32_S4x16_0_0))))
    (Host.dotGeneral dot_S4x51200x10x16_S4x16_S4x51200x10_3_1_12_n_0_0 none hn (extractStridedSlice S4x16 ![0, 16] x4 slices_S4x32_S4x16_0_16))

/-- The exponentials of the first layer's activated scores. -/
def exps (x : FVec Ideal S4x51200x10 .f32) : FVec Ideal S4x51200x10 .f32 :=
  Host.exp (maximumf x (mulf (broadcastInDim S4x51200x10 ![] bcast_S_S4x51200x10 (constant S_ .f32 0x3E4CCCCD#32)) x))

/-- The first layer's mean, before its activation. -/
def mean1 (p : FVec Ideal S4x51200x10 .f32) (hn : FVec Ideal S4x51200x10x16 .f32) : FVec Ideal S51200x64 .f32 :=
  shapeCast S51200x64 (transpose S51200x4x16 [1, 0, 2] (Host.dotGeneral dot_S4x51200x10_S4x51200x10x16_S4x51200x16_2_2_n_3_01_01 none
    (Host.divf p (broadcastInDim S4x51200x10 ![0, 1, 2] bcast_S4x51200x1_S4x51200x10_0_1_2 (broadcastInDim S4x51200x1 ![0, 1] bcast_S4x51200_S4x51200x1_0_1
      (Host.reduceAdd p (constant S_ .f32 0x00000000#32) reducesTo_S4x51200x10_S4x51200_d2 h_S_)))) hn) transposes_S4x51200x16_S51200x4x16_1_0_2) shapeCasts_S51200x4x16_S51200x64

/-- The first layer's output, one node's neighbours together. -/
def act1 (g : FVec Ideal S51200x64 .f32) : FVec Ideal S2048x25x64 .f32 :=
  shapeCast S2048x25x64 (maximumf g (subf (Host.exp (minimumf g (broadcastInDim S51200x64 ![] bcast_S_S51200x64 (constant S_ .f32 0x00000000#32))))
    (broadcastInDim S51200x64 ![] bcast_S_S51200x64 (constant S_ .f32 0x3F800000#32)))) shapeCasts_S51200x64_S2048x25x64

/-- The second layer's scores. -/
def score2 (g : FVec Ideal S2048x25x64 .f32) (x0 : FVec Ideal S2048x64 .f32) (x5 : FVec Ideal S1x64x32 .f32) (x6 : FVec Ideal S1x64 .f32) : FVec Ideal S1x2048x25 .f32 :=
  addf (broadcastInDim S1x2048x25 ![0, 1, 2] bcast_S1x2048x1_S1x2048x25_0_1_2 (broadcastInDim S1x2048x1 ![0, 1] bcast_S1x2048_S1x2048x1_0_1
      (Host.dotGeneral dot_S1x2048x32_S1x32_S1x2048_2_1_1_n_0_0 none (transpose S1x2048x32 [0, 2, 1] (Host.dotGeneral dot_S1x64x32_S2048x64_S1x32x2048_1_1_02_0_n_n none x5 x0) transposes_S1x32x2048_S1x2048x32_0_2_1)
        (extractStridedSlice S1x32 ![0, 0] x6 slices_S1x64_S1x32_0_0))))
    (Host.dotGeneral dot_S1x2048x25x32_S1x32_S1x2048x25_3_1_12_n_0_0 none (transpose S1x2048x25x32 [0, 2, 3, 1] (Host.dotGeneral dot_S1x64x32_S2048x25x64_S1x32x2048x25_1_2_02_01_n_n none x5 g) transposes_S1x32x2048x25_S1x2048x25x32_0_2_3_1)
      (extractStridedSlice S1x32 ![0, 32] x6 slices_S1x64_S1x32_0_32))

/-- Every element of an array is a number. -/
def small {s : Shape} {axes : List (Fin s.rank)} (x : FVec Ideal s .f32) (hb : S_.BroadcastsInDim s (![] : Fin 0 → Fin s.rank)) (h : s.ReducesTo axes S_) : IVec S_ 1 :=
  Host.reduce IntOp.andi (cmpf .olt (Host.absf x) (broadcastInDim s ![] hb (constant S_ .f32 0x7F800000#32))) (constantI S_ 1 1#1) h h_S_

/-- Every element of an array is at most sixty. -/
def low {s : Shape} {axes : List (Fin s.rank)} (x : FVec Ideal s .f32) (hb : S_.BroadcastsInDim s (![] : Fin 0 → Fin s.rank)) (h : s.ReducesTo axes S_) : IVec S_ 1 :=
  Host.reduce IntOp.andi (cmpf .ole x (broadcastInDim s ![] hb (constant S_ .f32 0x42700000#32))) (constantI S_ 1 1#1) h h_S_

/-- The precondition, its parts named. -/
theorem fn_eq (x0 : FVec Ideal S2048x64 .f32) (x1 : FVec Ideal S51200x128 .f32) (x2 : FVec Ideal S51200x10x128 .f32) (x3 : FVec Ideal S4x128x16 .f32) (x4 : FVec Ideal S4x32 .f32) (x5 : FVec Ideal S1x64x32 .f32) (x6 : FVec Ideal S1x64 .f32) (x7 : FVec Ideal S32x1 .f32) (x8 : FVec Ideal S1 .f32) :
    fn (F := Ideal) x0 x1 x2 x3 x4 x5 x6 x7 x8
      = andi (andi (andi (andi (andi (andi (andi (small x0 bcast_S_S2048x64 reducesTo_S2048x64_S_d0_1) (small x1 bcast_S_S51200x128 reducesTo_S51200x128_S_d0_1)) (small x2 bcast_S_S51200x10x128 reducesTo_S51200x10x128_S_d0_1_2)) (small x3 bcast_S_S4x128x16 reducesTo_S4x128x16_S_d0_1_2)) (small x4 bcast_S_S4x32 reducesTo_S4x32_S_d0_1)) (small x5 bcast_S_S1x64x32 reducesTo_S1x64x32_S_d0_1_2)) (small x6 bcast_S_S1x64 reducesTo_S1x64_S_d0_1))
        (andi (low (score1 x1 (feat x3 x2) x3 x4) bcast_S_S4x51200x10 reducesTo_S4x51200x10_S_d0_1_2)
          (low (score2 (act1 (mean1 (exps (score1 x1 (feat x3 x2) x3 x4)) (feat x3 x2))) x0 x5 x6) bcast_S_S1x2048x25 reducesTo_S1x2048x25_S_d0_1_2)) := rfl

/-- What the conjunction of the finiteness of an array says at an index. -/
theorem small_at {s : Shape} {axes : List (Fin s.rank)} (x : FVec Ideal s .f32) (hb : S_.BroadcastsInDim s (![] : Fin 0 → Fin s.rank)) (h : s.ReducesTo axes S_) (e : small x hb h ix0 = 1#1) (i : s.Idx) :
    ∃ r : ℝ, x i = (r : EReal) := by
  have e1 := Host.reduce_andi_all _ _ _ _ ix0 e i
  pointwise at e1
  rw [ofBits_pinf] at e1
  have e2 : FloatOps.absf (F := Ideal) (φ := .f32) (x i) < (⊤ : EReal) := by
    by_contra hn
    rw [decide_eq_false hn] at e1
    exact absurd e1 (by decide)
  generalize x i = v at e2 ⊢
  induction v using EReal.rec with
  | bot => simp [FloatOps.absf] at e2
  | coe r => exact ⟨r, rfl⟩
  | top => simp [FloatOps.absf] at e2

/-- What the conjunction of the bounds of an array says at an index. -/
theorem low_at {s : Shape} {axes : List (Fin s.rank)} (x : FVec Ideal s .f32) (hb : S_.BroadcastsInDim s (![] : Fin 0 → Fin s.rank)) (h : s.ReducesTo axes S_) (e : low x hb h ix0 = 1#1) (i : s.Idx) (r : ℝ) (hr : x i = (r : EReal)) :
    r ≤ 60 := by
  have e1 := Host.reduce_andi_all _ _ _ _ ix0 e i
  pointwise at e1
  rw [ofBits_sixty, hr] at e1
  by_contra hn
  rw [decide_eq_false (by simpa using hn)] at e1
  exact absurd e1 (by decide)

section
variable (y0 : FVec Ideal S2048x64 .f32) (y1 : FVec Ideal S51200x128 .f32) (y2 : FVec Ideal S51200x10x128 .f32) (y3 : FVec Ideal S4x128x16 .f32) (y4 : FVec Ideal S4x32 .f32) (y5 : FVec Ideal S1x64x32 .f32) (y6 : FVec Ideal S1x64 .f32)
  (x0 : Fin 2048 → Fin 64 → ℝ) (x1 : Fin 51200 → Fin 128 → ℝ) (x2 : Fin 51200 → Fin 10 → Fin 128 → ℝ)
  (w : Fin 4 → Fin 128 → Fin 16 → ℝ) (a : Fin 4 → Fin 32 → ℝ) (w2 : Fin 64 → Fin 32 → ℝ) (a2 : Fin 64 → ℝ)
  (h0 : ∀ i q, y0 (ix2 i q) = ((x0 i q : ℝ) : EReal))
  (h1' : ∀ n f, y1 (ix2 n f) = ((x1 n f : ℝ) : EReal))
  (h2' : ∀ n s f, y2 (ix3 n s f) = ((x2 n s f : ℝ) : EReal))
  (h3' : ∀ k f o, y3 (ix3 k f o) = ((w k f o : ℝ) : EReal))
  (h4' : ∀ k o, y4 (ix2 k o) = ((a k o : ℝ) : EReal))
  (h5 : ∀ q o, y5 (ix3 0 q o) = ((w2 q o : ℝ) : EReal))
  (h6 : ∀ o, y6 (ix2 0 o) = ((a2 o : ℝ) : EReal))

include h2' h3' in
/-- The neighbours' features. -/
theorem feat_at (k : Fin 4) (n : Fin 51200) (s : Fin 10) (o : Fin 16) :
    feat y3 y2 (ix4 k n s o) = ((h1 (w k) (x2 n s) o : ℝ) : EReal) := by
  pointwise [feat]
  simp only [h2', h3', ← EReal.coe_mul, csum]
  refine congrArg _ (Finset.sum_congr rfl fun f _ => mul_comm _ _)

include h1' h2' h3' h4' in
/-- The first layer's scores. -/
theorem score1_at (k : Fin 4) (n : Fin 51200) (s : Fin 10) :
    score1 y1 (feat y3 y2) y3 y4 (ix3 k n s) = ((sc1 (w k) (al a k) (ar a k) (x1 n) (x2 n s) : ℝ) : EReal) := by
  have hf := feat_at y2 y3 x2 w h2' h3'
  generalize feat y3 y2 = hn at hf
  pointwise [score1]
  simp only [hf, h1', h3', h4', ← EReal.coe_mul, csum, ← EReal.coe_add]
  refine congrArg _ (congrArg₂ _ (Finset.sum_congr rfl fun o _ => congrArg₂ _ ?_ rfl) rfl)
  exact Finset.sum_congr rfl fun f _ => mul_comm _ _

/-- The exponentials of the activated scores. -/
theorem exps_at (x : FVec Ideal S4x51200x10 .f32) (k : Fin 4) (n : Fin 51200) (s : Fin 10) (r : ℝ) (h : x (ix3 k n s) = (r : EReal)) :
    exps x (ix3 k n s) = ((Real.exp (lk r) : ℝ) : EReal) := by
  pointwise [exps, h]
  rw [ofBits_slope, ← EReal.coe_mul, cmax, Ideal.exp_coe]
  rfl

/-- The first layer's mean. -/
theorem mean1_at (p : FVec Ideal S4x51200x10 .f32) (hn : FVec Ideal S4x51200x10x16 .f32) (n : Fin 51200) (q : Fin 64) (f h : Fin 10 → ℝ)
    (hp : ∀ s, p (ix3 (qk q) n s) = ((Real.exp (lk (f s)) : ℝ) : EReal)) (hh : ∀ s, hn (ix4 (qk q) n s (qo q)) = ((h s : ℝ) : EReal)) :
    mean1 p hn (ix2 n q) = ((soft f h : ℝ) : EReal) := by
  pointwise [mean1]
  simp only [qk, qo] at hp hh
  simp only [hp, hh, csum]
  simp only [cdiv _ _ (den_pos (fun s => lk (f s))).ne', ← EReal.coe_mul, csum]
  rw [soft_each]

/-- The first layer's output. -/
theorem act1_at (g : FVec Ideal S51200x64 .f32) (i : Fin 2048) (j : Fin 25) (q : Fin 64) (r : ℝ) (h : g (ix2 (nrow i j) q) = (r : EReal)) :
    act1 g (ix3 i j q) = ((elu r : ℝ) : EReal) := by
  pointwise [act1]
  simp only [nrow] at h
  rw [h, ← EReal.coe_zero, cmin, Ideal.exp_coe, csub_one, cmax]
  rfl

include h0 h5 h6 in
/-- The second layer's scores. -/
theorem score2_at (g : FVec Ideal S2048x25x64 .f32) (i : Fin 2048) (j : Fin 25) (G : Fin 64 → ℝ) (hg : ∀ q, g (ix3 i j q) = ((G q : ℝ) : EReal)) :
    score2 g y0 y5 y6 (ix3 0 i j) = ((sc2 w2 (cl a2) (cr a2) (x0 i) G : ℝ) : EReal) := by
  pointwise [score2]
  simp only [hg, h0, h5, h6, ← EReal.coe_mul, csum, ← EReal.coe_add]
  refine congrArg _ (congrArg₂ _ (Finset.sum_congr rfl fun o _ => congrArg₂ _ ?_ rfl) (Finset.sum_congr rfl fun o _ => congrArg₂ _ ?_ rfl)) <;>
  exact Finset.sum_congr rfl fun f _ => mul_comm _ _

end

/-- The real arrays behind the arguments, and the bounds of both layers' scores. -/
theorem reads (y0 : FVec Ideal S2048x64 .f32) (y1 : FVec Ideal S51200x128 .f32) (y2 : FVec Ideal S51200x10x128 .f32) (y3 : FVec Ideal S4x128x16 .f32) (y4 : FVec Ideal S4x32 .f32) (y5 : FVec Ideal S1x64x32 .f32) (y6 : FVec Ideal S1x64 .f32) (y7 : FVec Ideal S32x1 .f32) (y8 : FVec Ideal S1 .f32)
    (e : fn (F := Ideal) y0 y1 y2 y3 y4 y5 y6 y7 y8 = fun _ => 1#1) :
    ∃ (x0 : Fin 2048 → Fin 64 → ℝ) (x1 : Fin 51200 → Fin 128 → ℝ) (x2 : Fin 51200 → Fin 10 → Fin 128 → ℝ)
      (w : Fin 4 → Fin 128 → Fin 16 → ℝ) (a : Fin 4 → Fin 32 → ℝ) (w2 : Fin 64 → Fin 32 → ℝ) (a2 : Fin 64 → ℝ),
      (∀ i q, y0 (ix2 i q) = ((x0 i q : ℝ) : EReal)) ∧ (∀ n f, y1 (ix2 n f) = ((x1 n f : ℝ) : EReal))
      ∧ (∀ n s f, y2 (ix3 n s f) = ((x2 n s f : ℝ) : EReal)) ∧ (∀ k f o, y3 (ix3 k f o) = ((w k f o : ℝ) : EReal))
      ∧ (∀ k o, y4 (ix2 k o) = ((a k o : ℝ) : EReal)) ∧ (∀ q o, y5 (ix3 0 q o) = ((w2 q o : ℝ) : EReal))
      ∧ (∀ o, y6 (ix2 0 o) = ((a2 o : ℝ) : EReal))
      ∧ (∀ k n s, sc1 (w k) (al a k) (ar a k) (x1 n) (x2 n s) ≤ 60)
      ∧ (∀ i j, sc2 w2 (cl a2) (cr a2) (x0 i) (grow x1 x2 w a (nrow i j)) ≤ 60) := by
  have e := congrFun e ix0
  rw [fn_eq] at e
  obtain ⟨e, e'⟩ := IntOp.andi_eq_one.1 e
  obtain ⟨e8, e9⟩ := IntOp.andi_eq_one.1 e'
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  choose r0 f0 using small_at _ _ _ e0
  choose r1 f1 using small_at _ _ _ e1
  choose r2 f2 using small_at _ _ _ e2
  choose r3 f3 using small_at _ _ _ e3
  choose r4 f4 using small_at _ _ _ e4
  choose r5 f5 using small_at _ _ _ e5
  choose r6 f6 using small_at _ _ _ e6
  have g1 := score1_at y1 y2 y3 y4 (fun n f => r1 (ix2 n f)) (fun n s f => r2 (ix3 n s f)) (fun k f o => r3 (ix3 k f o)) (fun k o => r4 (ix2 k o))
    (fun n f => f1 _) (fun n s f => f2 _) (fun k f o => f3 _) (fun k o => f4 _)
  have gf := feat_at y2 y3 (fun n s f => r2 (ix3 n s f)) (fun k f o => r3 (ix3 k f o)) (fun n s f => f2 _) (fun k f o => f3 _)
  refine ⟨fun i q => r0 (ix2 i q), fun n f => r1 (ix2 n f), fun n s f => r2 (ix3 n s f), fun k f o => r3 (ix3 k f o), fun k o => r4 (ix2 k o), fun q o => r5 (ix3 0 q o), fun o => r6 (ix2 0 o),
    fun _ _ => f0 _, fun _ _ => f1 _, fun _ _ _ => f2 _, fun _ _ _ => f3 _, fun _ _ => f4 _, fun _ _ => f5 _, fun _ => f6 _,
    fun k n s => low_at _ _ _ e8 _ _ (g1 k n s), fun i j => low_at _ _ _ e9 (ix3 0 i j) _ ?_⟩
  refine score2_at y0 y5 y6 _ _ _ (fun i q => f0 _) (fun q o => f5 _) (fun o => f6 _) _ i j _ fun q => ?_
  exact act1_at _ i j q _ (mean1_at _ _ _ q _ _ (fun s => exps_at _ _ _ _ _ (g1 _ _ s)) fun s => gf _ _ s _)

end Cert.Pre_tame
-- ==== Proof.Value.Layer1.lean ====
module

public import proofs.«01_k».proof.Proof.KernelIdeal.Steps
public import proofs.«01_k».proof.Proof.Value.Idx
public import Idealize.ShloMosaic.Lib.Pipeline.Value

@[expose] public section

set_option maxRecDepth 16384

/-!
# The first layer, as the kernel computes it on one block

From operand blocks whose entries are finite and whose helper matrices are the selections they stand for, the block
of first-layer outputs holds, at row `n` and column `16 k + o`, the first layer's output of that row's neighbour.
-/

noncomputable section

open Idealize.ShloMosaic Idealize.ShloMosaic.TcCoe Idealize.SL.Sem

namespace Cert.KernelIdeal.Pure

open Cert.KernelIdeal Cert.KernelIdeal.Gen Cert.KernelIdeal.Hand Cert.Gat

/-- One of the ten products the features are put together from. -/
def piece (X4 : Vec Ideal S128x64 .f32) (v : Vec Ideal S1x1600x128 .f32) : FVec Ideal S1600x64 .f32 :=
  matmul dot_S1600x128_S128x64_S1600x64_1_0_0_1_n_n none
    ((shapeCast S1600x128 v shapeCasts_S1x1600x128_S1600x128 : FVec Ideal S1600x128 .f32)) (k0_pay2 (F := Ideal) X4) (constant S1600x64 .f32 0x00000000#32)

/-- The features are the ten products side by side. -/
theorem hn_eq (u : Fin 10 → Vec Ideal S1x1600x128 .f32) (X4 : Vec Ideal S128x64 .f32) :
    ∃ h, k0_pay6 (F := Ideal) (k0_pay2 X4) (k0_pay3 X4 (u 0)) (k0_pay4 X4 (u 1)) (k0_pay5 X4 (u 2)) (u 3) (u 4) (u 5) (u 6) (u 7) (u 8) (u 9)
      = concatenate S1600x640 1 (List.ofFn fun s : Fin 10 => (⟨S1600x64, piece X4 (u s)⟩ : (s : Shape) × (s.Idx → Ideal .f32))) h :=
  ⟨concatenates_S1600x64_S1600x64_S1600x64_S1600x64_S1600x64_S1600x64_S1600x64_S1600x64_S1600x64_S1600x64_S1600x640_d1, rfl⟩

/-- One product at an index. -/
theorem piece_at (X4 : Vec Ideal S128x64 .f32) (v : Vec Ideal S1x1600x128 .f32) (n : Fin 1600) (q : Fin 64)
    (x : Fin 128 → ℝ) (w : Fin 4 → Fin 128 → Fin 16 → ℝ)
    (hu : ∀ f, v (ix3 0 n f) = ((x f : ℝ) : EReal))
    (h4 : ∀ f q, X4 (ix2 f q) = ((w (qk q) f (qo q) : ℝ) : EReal)) :
    piece X4 v (ix2 n q) = ((h1 (w (qk q)) x (qo q) : ℝ) : EReal) := by
  pointwise [piece, k0_pay2]
  simp only [hu, h4, ← EReal.coe_mul, csum]
  rfl

/-- The neighbours' features: at column `64 s + q` the `s`-th second-hop neighbour's row times column `q` of the weights. -/
theorem hn_at (u : Fin 10 → Vec Ideal S1x1600x128 .f32) (X4 : Vec Ideal S128x64 .f32) (n : Fin 1600) (c : Fin 640)
    (nb : Fin 10 → Fin 128 → ℝ) (w : Fin 4 → Fin 128 → Fin 16 → ℝ)
    (hu : ∀ s f, u s (ix3 0 n f) = ((nb s f : ℝ) : EReal))
    (h4 : ∀ f q, X4 (ix2 f q) = ((w (qk q) f (qo q) : ℝ) : EReal)) :
    k0_pay6 (F := Ideal) (k0_pay2 X4) (k0_pay3 X4 (u 0)) (k0_pay4 X4 (u 1)) (k0_pay5 X4 (u 2)) (u 3) (u 4) (u 5) (u 6) (u 7) (u 8) (u 9) (ix2 n c)
      = ((h1 (w (qk (cq c))) (nb (cs c)) (qo (cq c)) : ℝ) : EReal) := by
  obtain ⟨h, e⟩ := hn_eq u X4
  rw [e]
  refine (concatenate_ofFn_apply (t := S1600x640) (s₁ := S1600x64) (1 : Fin 2) (fun s : Fin 10 => piece X4 (u s)) h rfl 64 rfl (ix2 n c) (cs c) rfl (ix2 n (cq c)) rfl ?_).trans
    (piece_at X4 (u (cs c)) n (cq c) (nb (cs c)) w (hu _) h4)
  intro b hb
  match b with
  | ⟨0, _⟩ => rfl
  | ⟨1, _⟩ => exact absurd rfl hb

/-- The neighbour's own part of the scores. -/
theorem es_at (X2 : Vec Ideal S1600x128 .f32) (X5 : Vec Ideal S128x40 .f32) (n : Fin 1600) (j : Fin 40)
    (x : Fin 128 → ℝ) (w : Fin 4 → Fin 128 → Fin 16 → ℝ) (al : Fin 4 → Fin 16 → ℝ)
    (hx : ∀ f, X2 (ix2 n f) = ((x f : ℝ) : EReal))
    (h5 : ∀ f j, X5 (ix2 f j) = ((∑ o, al (jk j) o * w (jk j) f o : ℝ) : EReal)) :
    k0_pay7 (F := Ideal) X2 X5 (ix2 n j) = ((∑ o, h1 (w (jk j)) x o * al (jk j) o : ℝ) : EReal) := by
  pointwise [k0_pay7]
  simp only [hx, h5, ← EReal.coe_mul, csum]
  refine congrArg _ ?_
  simp only [h1, Finset.mul_sum, Finset.sum_mul]
  rw [Finset.sum_comm]
  exact Finset.sum_congr rfl fun o _ => Finset.sum_congr rfl fun f _ => by ring

/-- The block of first-layer outputs, from the features and the neighbour's part of the scores. -/
theorem pay8_at (v60 : FVec Ideal S1600x640 .f32) (v64 : FVec Ideal S1600x40 .f32) (X6 : Vec Ideal S640x40 .f32)
    (X7 : Vec Ideal S40x4 .f32) (X9 : Vec Ideal S4x64 .f32) (X8 : Vec Ideal S40x640 .f32) (X10 : Vec Ideal S640x64 .f32)
    (n : Fin 1600) (q : Fin 64)
    (x : Fin 128 → ℝ) (nb : Fin 10 → Fin 128 → ℝ) (w : Fin 4 → Fin 128 → Fin 16 → ℝ) (al ar : Fin 4 → Fin 16 → ℝ)
    (hh : ∀ c, v60 (ix2 n c) = ((h1 (w (qk (cq c))) (nb (cs c)) (qo (cq c)) : ℝ) : EReal))
    (he : ∀ j, v64 (ix2 n j) = ((∑ o, h1 (w (jk j)) x o * al (jk j) o : ℝ) : EReal))
    (h6 : ∀ c j, X6 (ix2 c j) = ((ar (qk (cq c)) (qo (cq c)) * ind (qk (cq c) = jk j) * ind (cs c = js j) : ℝ) : EReal))
    (h7 : ∀ j k, X7 (ix2 j k) = ((ind (jk j = k) : ℝ) : EReal))
    (h9 : ∀ k q, X9 (ix2 k q) = ((ind (k = qk q) : ℝ) : EReal))
    (h8 : ∀ j c, X8 (ix2 j c) = ((ind (jk j = qk (cq c)) * ind (js j = cs c) : ℝ) : EReal))
    (h10 : ∀ c q, X10 (ix2 c q) = ((ind (cq c = q) : ℝ) : EReal))
    (hle : ∀ k s, sc1 (w k) (al k) (ar k) x (nb s) ≤ 60) :
    k0_pay8 (F := Ideal) v60 v64 X6 X7 X9 X8 X10 (ix2 n q)
      = ((g1 (w (qk q)) (al (qk q)) (ar (qk q)) x nb (qo q) : ℝ) : EReal) := by
  have e1 : ∀ j : Fin 40, v64 (ix2 n j) + ∑ c : Fin 640, v60 (ix2 n c) * X6 (ix2 c j)
      = ((sc1 (w (jk j)) (al (jk j)) (ar (jk j)) x (nb (js j)) : ℝ) : EReal) := by
    intro j
    simp only [hh, he, h6, ← EReal.coe_mul, csum, ← EReal.coe_add]
    rw [sum_r (fun c => h1 (w (qk (cq c))) (nb (cs c)) (qo (cq c))) ar j]
    simp only [cq_cmk, cs_cmk, qk_qmk, qo_qmk]
    rfl
  have e2 : ∀ j : Fin 40, Ideal.exp (min (if (0 : EReal) ≤ v64 (ix2 n j) + ∑ c : Fin 640, v60 (ix2 n c) * X6 (ix2 c j)
        then v64 (ix2 n j) + ∑ c : Fin 640, v60 (ix2 n c) * X6 (ix2 c j)
        else Ideal.ofBits .f32 0x3E4CCCCD#32 * (v64 (ix2 n j) + ∑ c : Fin 640, v60 (ix2 n c) * X6 (ix2 c j)))
        (Ideal.ofBits .f32 0x42700000#32))
      = ((Real.exp (lk (sc1 (w (jk j)) (al (jk j)) (ar (jk j)) x (nb (js j)))) : ℝ) : EReal) := by
    intro j
    rw [e1, ofBits_slope, ofBits_sixty, clk, cmin, Ideal.exp_coe, min_eq_left (lk_le _ (hle _ _))]
  have hpos : ∀ k, (∑ s, Real.exp (lk (sc1 (w k) (al k) (ar k) x (nb s)))) ≠ 0 := fun k => (den_pos _).ne'
  pointwise [k0_pay8]
  simp only [e2]
  simp only [h7, h8, h9, h10, hh, ← EReal.coe_mul, csum]
  have e3 : ∀ k : Fin 4, Ideal.div 1 ((∑ j : Fin 40, Real.exp (lk (sc1 (w (jk j)) (al (jk j)) (ar (jk j)) x (nb (js j)))) * ind (jk j = k) : ℝ) : EReal)
      = ((1 / ∑ s, Real.exp (lk (sc1 (w k) (al k) (ar k) x (nb s))) : ℝ) : EReal) := by
    intro k
    rw [sum_4 (fun j => Real.exp (lk (sc1 (w (jk j)) (al (jk j)) (ar (jk j)) x (nb (js j))))) k]
    simp only [jk_jmk, js_jmk]
    rw [← EReal.coe_one]
    exact cdiv _ _ (hpos k)
  have e5 : ∀ c : Fin 640, (∑ j : Fin 40, Real.exp (lk (sc1 (w (jk j)) (al (jk j)) (ar (jk j)) x (nb (js j)))) * (ind (jk j = qk (cq c)) * ind (js j = cs c)))
      = Real.exp (lk (sc1 (w (qk (cq c))) (al (qk (cq c))) (ar (qk (cq c))) x (nb (cs c)))) := by
    intro c
    rw [sum_b (fun j => Real.exp (lk (sc1 (w (jk j)) (al (jk j)) (ar (jk j)) x (nb (js j))))) c]
    simp only [jk_jmk, js_jmk]
  simp only [e3, e5, ← EReal.coe_mul, csum]
  have e4 : (∑ k : Fin 4, (1 / ∑ s, Real.exp (lk (sc1 (w k) (al k) (ar k) x (nb s)))) * ind (k = qk q))
      = 1 / ∑ s, Real.exp (lk (sc1 (w (qk q)) (al (qk q)) (ar (qk q)) x (nb s))) :=
    sum_bc (fun k => 1 / ∑ s, Real.exp (lk (sc1 (w k) (al k) (ar k) x (nb s)))) q
  have e6 : (∑ c : Fin 640, Real.exp (lk (sc1 (w (qk (cq c))) (al (qk (cq c))) (ar (qk (cq c))) x (nb (cs c)))) * h1 (w (qk (cq c))) (nb (cs c)) (qo (cq c)) * ind (cq c = q))
      = ∑ s, Real.exp (lk (sc1 (w (qk q)) (al (qk q)) (ar (qk q)) x (nb s))) * h1 (w (qk q)) (nb s) (qo q) := by
    rw [sum_slab (fun c => Real.exp (lk (sc1 (w (qk (cq c))) (al (qk (cq c))) (ar (qk (cq c))) x (nb (cs c)))) * h1 (w (qk (cq c))) (nb (cs c)) (qo (cq c))) q]
    simp only [cq_cmk, cs_cmk]
  rw [e4, e6, celu, mul_one_div]
  rfl

/-- The block of first-layer outputs, from the operand blocks. -/
theorem g1Blk_at (u : Fin 10 → Vec Ideal S1x1600x128 .f32) (X2 : Vec Ideal S1600x128 .f32) (X4 : Vec Ideal S128x64 .f32)
    (X5 : Vec Ideal S128x40 .f32) (X6 : Vec Ideal S640x40 .f32) (X7 : Vec Ideal S40x4 .f32) (X8 : Vec Ideal S40x640 .f32)
    (X9 : Vec Ideal S4x64 .f32) (X10 : Vec Ideal S640x64 .f32) (n : Fin 1600) (q : Fin 64)
    (x : Fin 128 → ℝ) (nb : Fin 10 → Fin 128 → ℝ) (w : Fin 4 → Fin 128 → Fin 16 → ℝ) (al ar : Fin 4 → Fin 16 → ℝ)
    (hu : ∀ s f, u s (ix3 0 n f) = ((nb s f : ℝ) : EReal))
    (hx : ∀ f, X2 (ix2 n f) = ((x f : ℝ) : EReal))
    (h4 : ∀ f q, X4 (ix2 f q) = ((w (qk q) f (qo q) : ℝ) : EReal))
    (h5 : ∀ f j, X5 (ix2 f j) = ((∑ o, al (jk j) o * w (jk j) f o : ℝ) : EReal))
    (h6 : ∀ c j, X6 (ix2 c j) = ((ar (qk (cq c)) (qo (cq c)) * ind (qk (cq c) = jk j) * ind (cs c = js j) : ℝ) : EReal))
    (h7 : ∀ j k, X7 (ix2 j k) = ((ind (jk j = k) : ℝ) : EReal))
    (h8 : ∀ j c, X8 (ix2 j c) = ((ind (jk j = qk (cq c)) * ind (js j = cs c) : ℝ) : EReal))
    (h9 : ∀ k q, X9 (ix2 k q) = ((ind (k = qk q) : ℝ) : EReal))
    (h10 : ∀ c q, X10 (ix2 c q) = ((ind (cq c = q) : ℝ) : EReal))
    (hle : ∀ k s, sc1 (w k) (al k) (ar k) x (nb s) ≤ 60) :
    g1Blk u X2 X4 X5 X6 X7 X8 X9 X10 (ix2 n q)
      = ((g1 (w (qk q)) (al (qk q)) (ar (qk q)) x nb (qo q) : ℝ) : EReal) :=
  pay8_at _ _ X6 X7 X9 X8 X10 n q x nb w al ar (fun c => hn_at u X4 n c nb w hu h4) (fun j => es_at X2 X5 n j x w al hx h5)
    h6 h7 h9 h8 h10 hle

end Cert.KernelIdeal.Pure
-- ==== Proof.Value.Layer2.lean ====
module

public import proofs.«01_k».proof.Proof.KernelIdeal.Steps
public import proofs.«01_k».proof.Proof.Value.Idx
public import Idealize.ShloMosaic.Lib.Pipeline.Value

@[expose] public section

set_option maxRecDepth 16384

/-!
# The second layer, as the kernel computes it on one block

The rows of one block are gathered node by node with two masks, made of integer index arithmetic: the row's node is
its number over twenty-five, its place among the node's neighbours the remainder.
-/

noncomputable section

open Idealize.ShloMosaic Idealize.ShloMosaic.TcCoe Idealize.SL.Sem

namespace Cert.KernelIdeal.Pure

open Cert.KernelIdeal Cert.KernelIdeal.Gen Cert.KernelIdeal.Hand Cert.Gat

/-- The quotient by twenty-five as the kernel's words compute it. -/
theorem word_div : ∀ n : Fin 1600, (Scalar.select
          (IntOp.andi
            (IntOp.cmpi CmpIPredicate.ne
              (IntOp.subi (BitVec.setWidth 32 (IntOp.cmpi CmpIPredicate.sgt (BitVec.ofNat 32 n.val) 0#32))
                (BitVec.setWidth 32 (IntOp.cmpi CmpIPredicate.slt (BitVec.ofNat 32 n.val) 0#32)))
              (Scalar.subi (Scalar.extui (Scalar.cmpi CmpIPredicate.sgt 25#32 0#32))
                (Scalar.extui (Scalar.cmpi CmpIPredicate.slt 25#32 0#32))))
            (IntOp.cmpi CmpIPredicate.ne (IntOp.remsi ArithUnit.vector (BitVec.ofNat 32 n.val) 25#32) 0#32))
          (IntOp.subi (IntOp.divsi ArithUnit.vector (BitVec.ofNat 32 n.val) 25#32) 1#32)
          (IntOp.divsi ArithUnit.vector (BitVec.ofNat 32 n.val) 25#32) : BitVec 32) = BitVec.ofNat 32 (n.val / 25) := by
  decide +kernel

/-- Two small numbers are equal when their words are. -/
theorem word_eq (a b : ℕ) (ha : a < 4096) (hb : b < 4096) :
    (Scalar.select (IntOp.cmpi CmpIPredicate.eq (BitVec.ofNat 32 a) (BitVec.ofNat 32 b)) (1 : EReal) 0) = ((ind (a = b) : ℝ) : EReal) := by
  by_cases h : a = b
  · subst h
    simp [ind, Scalar.select, IntOp.cmpi]
  · have : BitVec.ofNat 32 a ≠ BitVec.ofNat 32 b := by
      intro e
      have := congrArg BitVec.toNat e
      rw [BitVec.toNat_ofNat, BitVec.toNat_ofNat, Nat.mod_eq_of_lt (by omega), Nat.mod_eq_of_lt (by omega)] at this
      exact h this
    have hb : (BitVec.ofNat 32 a == BitVec.ofNat 32 b) = false := by simpa using this
    simp [ind, Scalar.select, IntOp.cmpi, h, hb]

/-- The mask of a node's rows. -/
theorem seg_at (b : Fin 64) (n : Fin 1600) :
    k0_pay13 (F := Ideal) (ix2 b n) = ((ind (rb n = b) : ℝ) : EReal) := by
  pointwise [k0_pay13]
  rw [word_div, word_eq _ _ (by omega) (by omega)]
  simp only [ind, Fin.ext_iff, rb]

/-- The weights of one block's neighbours. -/
def alpha (v108 : FVec Ideal S64x1 .f32) (v111 : FVec Ideal S1600x1 .f32) (v141 : FVec Ideal S64x1600 .f32) : FVec Ideal S64x25 .f32 :=
  let v142 : IVec S1600x25 32 := iota .tc S1600x25 32 [0] iota_S1600x25_d0_w32
  let c25_i32_76 : BitVec 32 := 25#32
  let c0_i32_77 : BitVec 32 := 0#32
  let v143 : BitVec 1 := Scalar.cmpi .eq c25_i32_76 c0_i32_77
  let v144 : BitVec 32 := Scalar.select v143 1#32 c25_i32_76
  have v145 : IVec S1600x25 32 := broadcast S1600x25 v144
  have v146 : IVec S1600x25 32 := remsi v142 v145
  have v147 : IVec S1600x25 32 := broadcast S1600x25 0#32
  have v148 : IVec S1600x25 1 := cmpi .ne v146 v147
  have v149 : IVec S1600x25 32 := broadcast S1600x25 0#32
  have v150 : IVec S1600x25 1 := cmpi .slt v146 v149
  let v151 : BitVec 1 := Scalar.cmpi .slt v144 0#32
  have v152 : IVec S1600x25 1 := broadcast S1600x25 v151
  have v153 : IVec S1600x25 1 := broadcastTo S1600x25 v152 broadcasts_S1600x25_S1600x25
  have v154 : IVec S1600x25 1 := xori v150 v153
  have v155 : IVec S1600x25 1 := andi v154 v148
  have v156 : IVec S1600x25 32 := broadcast S1600x25 v144
  have v157 : IVec S1600x25 32 := addi v146 v156
  have v158 : IVec S1600x25 32 := select v155 v157 v146
  have v159 : IVec S1600x25 32 := iota .tc S1600x25 32 [1] iota_S1600x25_d1_w32
  have v160 : IVec S1600x25 1 := cmpi .eq v158 v159
  have cst_82 : Ideal .f32 := Scalar.ofBits .f32 0x3F800000#32
  have cst_83 : Ideal .f32 := Scalar.ofBits .f32 0x00000000#32
  have v161 : FVec Ideal S1600x25 .f32 := broadcast S1600x25 cst_82
  have v162 : FVec Ideal S1600x25 .f32 := broadcast S1600x25 cst_83
  have v163 : FVec Ideal S1600x25 .f32 := select v160 v161 v162
  have v164 : FVec Ideal S1600x25 .f32 := broadcastTo S1600x25 v111 broadcasts_S1600x1_S1600x25
  have v165 : FVec Ideal S1600x25 .f32 := mulf v164 v163
  have cst_84 : FVec Ideal S64x25 .f32 := constant S64x25 .f32 0x00000000#32
  have v166 : FVec Ideal S64x25 .f32 := matmul dot_S64x1600_S1600x25_S64x25_1_0_0_1_n_n none v141 v165 cst_84
  have v167 : FVec Ideal S64x25 .f32 := broadcastTo S64x25 v108 broadcasts_S64x1_S64x25
  have v168 : FVec Ideal S64x25 .f32 := addf v167 v166
  have cst_85 : Ideal .f32 := Scalar.ofBits .f32 0x00000000#32
  have v169 : FVec Ideal S64x25 .f32 := broadcast S64x25 cst_85
  have v170 : IVec S64x25 1 := cmpf .oge v168 v169
  have cst_86 : Ideal .f32 := Scalar.ofBits .f32 0x3E4CCCCD#32
  have v171 : FVec Ideal S64x25 .f32 := broadcast S64x25 cst_86
  have v172 : FVec Ideal S64x25 .f32 := mulf v171 v168
  have v173 : FVec Ideal S64x25 .f32 := select v170 v168 v172
  have cst_87 : Ideal .f32 := Scalar.ofBits .f32 0x42700000#32
  have v174 : FVec Ideal S64x25 .f32 := broadcast S64x25 cst_87
  have v175 : FVec Ideal S64x25 .f32 := minimumf v173 v174
  have v176 : FVec Ideal S64x25 .f32 := exp v175
  have v177 : FVec Ideal S64 .f32 := multiReduction .add [1] S64 v176 0x00000000#32 reduces_S64x25_S64 (.inl rfl) rfl
  have v178 : FVec Ideal S64x1 .f32 := shapeCast S64x1 v177 shapeCasts_S64_S64x1
  have v179 : FVec Ideal S64x25 .f32 := broadcastTo S64x25 v178 broadcasts_S64x1_S64x25
  have v180 : FVec Ideal S64x25 .f32 := divf v176 v179
  v180

/-- The output of one block, from the weights. -/
def fromAlpha (v180 : FVec Ideal S64x25 .f32) (v105 : FVec Ideal S1600x32 .f32) (v141 : FVec Ideal S64x1600 .f32) (v184 : Vec Ideal S32x1 .f32)
    (h : Shape.Concatenates ((List.replicate 64 (⟨S64x25, v180⟩ : (s : Shape) × (s.Idx → Ideal .f32))).map (·.1)) S64x1600 1) : FVec Ideal S64x1 .f32 :=
  have v181 : FVec Ideal S64x1600 .f32 := concatenate S64x1600 1 (List.replicate 64 (⟨S64x25, v180⟩ : (s : Shape) × (s.Idx → Ideal .f32))) h
  have v182 : FVec Ideal S64x1600 .f32 := mulf v181 v141
  have cst_89 : FVec Ideal S64x32 .f32 := constant S64x32 .f32 0x00000000#32
  have v183 : FVec Ideal S64x32 .f32 := matmul dot_S64x1600_S1600x32_S64x32_1_0_0_1_n_n none v182 v105 cst_89
  have cst_92 : FVec Ideal S64x1 .f32 := constant S64x1 .f32 0x00000000#32
  have v185 : FVec Ideal S64x1 .f32 := matmul (φ₂ := .f32) dot_S64x32_S32x1_S64x1_1_0_0_1_n_n none v183 v184 cst_92
  v185

/-- The kernel's output is put together from its weights. -/
theorem pay14_eq (v105 : FVec Ideal S1600x32 .f32) (v108 : FVec Ideal S64x1 .f32) (v111 : FVec Ideal S1600x1 .f32) (v141 : FVec Ideal S64x1600 .f32) (v184 : Vec Ideal S32x1 .f32) :
    ∃ h, k0_pay14 (F := Ideal) v105 v108 v111 v141 (iota .tc S1600x25 32 [0] iota_S1600x25_d0_w32) 25#32 0#32 v184
      = fromAlpha (alpha v108 v111 v141) v105 v141 v184 h :=
  ⟨concatenates_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x25_S64x1600_d1, rfl⟩

/-- The neighbour's place as the kernel's words compute it. -/
theorem word_rem : ∀ n : Fin 1600, (Scalar.select (IntOp.andi (IntOp.xori
            (IntOp.cmpi CmpIPredicate.slt (IntOp.remsi ArithUnit.vector (BitVec.ofNat 32 n.val) (Scalar.select (Scalar.cmpi CmpIPredicate.eq 25#32 0#32) 1#32 25#32)) 0#32)
            (Scalar.cmpi CmpIPredicate.slt (Scalar.select (Scalar.cmpi CmpIPredicate.eq 25#32 0#32) 1#32 25#32) 0#32))
          (IntOp.cmpi CmpIPredicate.ne (IntOp.remsi ArithUnit.vector (BitVec.ofNat 32 n.val) (Scalar.select (Scalar.cmpi CmpIPredicate.eq 25#32 0#32) 1#32 25#32)) 0#32))
        (IntOp.addi (IntOp.remsi ArithUnit.vector (BitVec.ofNat 32 n.val) (Scalar.select (Scalar.cmpi CmpIPredicate.eq 25#32 0#32) 1#32 25#32))
          (Scalar.select (Scalar.cmpi CmpIPredicate.eq 25#32 0#32) 1#32 25#32))
        (IntOp.remsi ArithUnit.vector (BitVec.ofNat 32 n.val) (Scalar.select (Scalar.cmpi CmpIPredicate.eq 25#32 0#32) 1#32 25#32)) : BitVec 32)
      = BitVec.ofNat 32 (n.val % 25) := by
  decide +kernel

/-- A masked number. -/
theorem word_sel (a b : ℕ) (ha : a < 4096) (hb : b < 4096) (x : EReal) :
    (Scalar.select (IntOp.cmpi CmpIPredicate.eq (BitVec.ofNat 32 a) (BitVec.ofNat 32 b)) x 0) = if a = b then x else 0 := by
  by_cases h : a = b
  · subst h
    simp [Scalar.select, IntOp.cmpi]
  · have : BitVec.ofNat 32 a ≠ BitVec.ofNat 32 b := by
      intro e
      have := congrArg BitVec.toNat e
      rw [BitVec.toNat_ofNat, BitVec.toNat_ofNat, Nat.mod_eq_of_lt (by omega), Nat.mod_eq_of_lt (by omega)] at this
      exact h this
    have hb : (BitVec.ofNat 32 a == BitVec.ofNat 32 b) = false := by simpa using this
    simp [Scalar.select, IntOp.cmpi, h, hb]

/-- The weights at an index. -/
theorem alpha_at (v108 : FVec Ideal S64x1 .f32) (v111 : FVec Ideal S1600x1 .f32) (v141 : FVec Ideal S64x1600 .f32) (b : Fin 64) (j : Fin 25)
    (A : ℝ) (E : Fin 1600 → ℝ)
    (hA : v108 (ix2 b 0) = (A : EReal)) (hE : ∀ n, v111 (ix2 n 0) = ((E n : ℝ) : EReal))
    (hs : ∀ n, v141 (ix2 b n) = ((ind (rb n = b) : ℝ) : EReal))
    (hle : ∀ j, A + E (rmk b j) ≤ 60) :
    alpha v108 v111 v141 (ix2 b j)
      = ((Real.exp (lk (A + E (rmk b j))) / ∑ l, Real.exp (lk (A + E (rmk b l))) : ℝ) : EReal) := by
  have e1 : ∀ j : Fin 25, v108 (ix2 b 0) + ∑ x : Fin 1600,
      Scalar.select (IntOp.cmpi CmpIPredicate.eq (BitVec.ofNat 32 (x.val % 25)) (BitVec.ofNat 32 j.val)) (v141 (ix2 b x) * v111 (ix2 x 0)) (0 : EReal)
      = ((A + E (rmk b j) : ℝ) : EReal) := by
    intro j
    rw [← sum_seg E b j, hA, EReal.coe_add, ← csum]
    refine congrArg _ (Finset.sum_congr rfl fun x _ => ?_)
    rw [word_sel _ _ (by omega) (by omega), hs, hE, ← EReal.coe_mul]
    have hj : (x.val % 25 = j.val) ↔ rj x = j := by rw [Fin.ext_iff]; rfl
    by_cases h : rj x = j
    · rw [if_pos (hj.2 h), ind, ind, if_pos h, mul_one]
    · rw [if_neg (fun h' => h (hj.1 h')), ind, ind, if_neg h, mul_zero, mul_zero, EReal.coe_zero]
  pointwise [alpha]
  simp only [word_rem]
  simp only [e1]
  simp only [ofBits_slope, ofBits_sixty, clk, cmin, Ideal.exp_coe, min_eq_left (lk_le _ (hle _)), csum]
  exact cdiv _ _ (den_pos _).ne'

/-- The output from the weights, at an index. -/
theorem fromAlpha_at (v180 : FVec Ideal S64x25 .f32) (v105 : FVec Ideal S1600x32 .f32) (v141 : FVec Ideal S64x1600 .f32) (v184 : Vec Ideal S32x1 .f32)
    (h : Shape.Concatenates ((List.replicate 64 (⟨S64x25, v180⟩ : (s : Shape) × (s.Idx → Ideal .f32))).map (·.1)) S64x1600 1) (b : Fin 64)
    (A : Fin 25 → ℝ) (H : Fin 1600 → Fin 32 → ℝ)
    (hA : ∀ j, v180 (ix2 b j) = ((A j : ℝ) : EReal)) (hH : ∀ n o, v105 (ix2 n o) = ((H n o : ℝ) : EReal))
    (hs : ∀ n, v141 (ix2 b n) = ((ind (rb n = b) : ℝ) : EReal)) :
    fromAlpha v180 v105 v141 v184 h (ix2 b 0)
      = ∑ o : Fin 32, ((∑ j, A j * H (rmk b j) o : ℝ) : EReal) * (show EReal from v184 (ix2 o 0)) := by
  have e : ∀ n : Fin 1600, concatenate S64x1600 1 (List.replicate 64 (⟨S64x25, v180⟩ : (s : Shape) × (s.Idx → Ideal .f32))) h (ix2 b n) = v180 (ix2 b (rj n)) := by
    intro n
    refine concatenate_replicate_apply (t := S64x1600) (s₁ := S64x25) (1 : Fin 2) 64 v180 h rfl (ix2 b n) (ix2 b (rj n)) rfl ?_
    intro a ha
    match a with
    | ⟨0, _⟩ => rfl
    | ⟨1, _⟩ => exact absurd rfl ha
  pointwise [fromAlpha]
  simp only [e, hA, hH, hs, ← EReal.coe_mul, csum]
  refine Finset.sum_congr rfl fun o _ => ?_
  rw [sum_own A (fun n => H n o) b]

/-- What the kernel stores for one node, from the blocks of its operands. -/
theorem out_at (g : FVec Ideal S1600x64 .f32) (X1 : Vec Ideal S64x64 .f32) (X11 : Vec Ideal S64x32 .f32) (X12 X13 : Vec Ideal S32x1 .f32)
    (X14 : Vec Ideal S32x1 .f32) (X15 : Vec Ideal S1x1 .f32) (b : Fin 64)
    (G : Fin 1600 → Fin 64 → ℝ) (x : Fin 64 → ℝ) (w : Fin 64 → Fin 32 → ℝ) (cl cr : Fin 32 → ℝ)
    (hg : ∀ n q, g (ix2 n q) = ((G n q : ℝ) : EReal))
    (hx : ∀ q, X1 (ix2 b q) = ((x q : ℝ) : EReal))
    (hw : ∀ q o, X11 (ix2 q o) = ((w q o : ℝ) : EReal))
    (hl : ∀ o, X12 (ix2 o 0) = ((cl o : ℝ) : EReal))
    (hr : ∀ o, X13 (ix2 o 0) = ((cr o : ℝ) : EReal))
    (hle : ∀ j, sc2 w cl cr x (G (rmk b j)) ≤ 60) :
    k0_pay1 (F := Ideal) (k0_pay14 (k0_pay10 g (k0_pay9 X11)) (k0_pay11 (k0_pay9 X11) X1 X12) (k0_pay12 g (k0_pay9 X11) X13) (k0_pay13 (F := Ideal))
        (iota .tc S1600x25 32 [0] iota_S1600x25_d0_w32) 25#32 0#32 X14) X15 (ix2 b 0)
      = Cert.Gat.fin (out2 w cl cr x fun j => G (rmk b j)) (fun o => (show EReal from X14 (ix2 o 0))) (show EReal from X15 (ix2 0 0)) := by
  have f10 : ∀ n o, k0_pay10 (F := Ideal) g (k0_pay9 X11) (ix2 n o) = ((h2 w (G n) o : ℝ) : EReal) := by
    intro n o
    pointwise [k0_pay10, k0_pay9]
    simp only [hg, hw, ← EReal.coe_mul, csum]
    rfl
  have f11 : k0_pay11 (F := Ideal) (k0_pay9 X11) X1 X12 (ix2 b 0) = ((∑ o, h2 w x o * cl o : ℝ) : EReal) := by
    pointwise [k0_pay11, k0_pay9]
    simp only [hx, hw, hl, ← EReal.coe_mul, csum]
    rfl
  have f12 : ∀ n, k0_pay12 (F := Ideal) g (k0_pay9 X11) X13 (ix2 n 0) = ((∑ o, h2 w (G n) o * cr o : ℝ) : EReal) := by
    intro n
    pointwise [k0_pay12, k0_pay10, k0_pay9]
    simp only [hg, hw, hr, ← EReal.coe_mul, csum]
    rfl
  obtain ⟨h, e⟩ := pay14_eq (k0_pay10 (F := Ideal) g (k0_pay9 X11)) (k0_pay11 (k0_pay9 X11) X1 X12) (k0_pay12 g (k0_pay9 X11) X13) (k0_pay13 (F := Ideal)) X14
  rw [e]
  have f := fromAlpha_at _ (k0_pay10 (F := Ideal) g (k0_pay9 X11)) (k0_pay13 (F := Ideal)) X14 h b _ (h2 w <| G ·)
    (fun j => alpha_at _ _ _ b j _ _ f11 f12 (seg_at b) hle) f10 (seg_at b)
  pointwise [k0_pay1]
  rw [f]
  unfold Cert.Gat.fin out2
  rw [zero_sub]
  simp only [← soft_each]
  rfl

end Cert.KernelIdeal.Pure
-- ==== Proof.Value.Host1.lean ====
module

public import proofs.«01_k».proof.Proof.KernelIdeal.Run
public import proofs.«01_k».proof.Proof.Value.Heads
public import Idealize.ShloMosaic.Lib.Pipeline.ValueKit

@[expose] public section

set_option maxRecDepth 16384

/-!
# The arrays the host prepares, read at an index
-/

noncomputable section

open Idealize.ShloMosaic Idealize.ShloMosaic.TcCoe Idealize.SL.Sem

namespace Cert.KernelIdeal.Pure

open Cert.KernelIdeal Cert.KernelIdeal.Gen Cert.Gat

variable (m : (ℓ : Loc nD τ sig) → Buf (Elt Ideal) ℓ) (c : Dev nD)

/-- An entry of an identity matrix, as the host spells it. -/
theorem eye (a b : ℕ) (ha : a < 1000) (hb : b < 1000) :
    (FloatOps.uitofp (F := Ideal) FTy.f32 (IntOp.cmpi CmpIPredicate.eq (IntOp.addi (BitVec.ofNat 32 a) 0#32) (BitVec.ofNat 32 b)) : EReal) = ((ind (a = b) : ℝ) : EReal) := by
  unfold ind
  by_cases h : a = b
  · subst h
    simp [FloatOps.uitofp, IntOp.cmpi, IntOp.addi]
  · have h' : BitVec.ofNat 32 a ≠ BitVec.ofNat 32 b := fun e => h (by
      have := congrArg BitVec.toNat e
      simp only [BitVec.toNat_ofNat] at this
      omega)
    simp [FloatOps.uitofp, IntOp.cmpi, IntOp.addi, h, h']

/-- A product of three real numbers. -/
theorem mul3 {x y z : EReal} {p q r : ℝ} (hx : x = (p : EReal)) (hy : y = (q : EReal)) (hz : z = (r : EReal)) :
    x * y * z = ((p * q * r : ℝ) : EReal) := by
  rw [hx, hy, hz, EReal.coe_mul, EReal.coe_mul]

/-- One where a statement holds, of two equivalent statements. -/
theorem ind_iff {p q : Prop} [Decidable p] [Decidable q] (h : p ↔ q) : ind p = ind q := by
  unfold ind
  by_cases hp : p
  · rw [if_pos hp, if_pos (h.1 hp)]
  · rw [if_neg hp, if_neg (fun hq => hp (h.2 hq))]

section
variable (w : Fin 4 → Fin 128 → Fin 16 → ℝ) (a : Fin 4 → Fin 32 → ℝ) (w2 : Fin 64 → Fin 32 → ℝ) (a2 : Fin 64 → ℝ)
  (h3' : ∀ k f o, (m (c, Proc.devRef .tc main_arg3) : FVec Ideal S4x128x16 .f32) (ix3 k f o) = ((w k f o : ℝ) : EReal))
  (h4' : ∀ k o, (m (c, Proc.devRef .tc main_arg4) : FVec Ideal S4x32 .f32) (ix2 k o) = ((a k o : ℝ) : EReal))
  (h5 : ∀ q o, (m (c, Proc.devRef .tc main_arg5) : FVec Ideal S1x64x32 .f32) (ix3 0 q o) = ((w2 q o : ℝ) : EReal))
  (h6 : ∀ o, (m (c, Proc.devRef .tc main_arg6) : FVec Ideal S1x64 .f32) (ix2 0 o) = ((a2 o : ℝ) : EReal))

include h3' in
/-- The heads' weights side by side. -/
theorem v1_at (f : Fin 128) (q : Fin 64) : (V m c main_v1 : FVec Ideal S128x64 .f32) (ix2 f q) = ((w (qk q) f (qo q) : ℝ) : EReal) := by
  entry_read
  pointwise
  exact h3' _ _ _

include h3' h4' in
/-- The weights folded with the left attention vectors, each head's column repeated for its neighbours. -/
theorem v19_at (f : Fin 128) (j : Fin 40) :
    (V m c main_v19 : FVec Ideal S128x40 .f32) (ix2 f j) = ((∑ o, al a (jk j) o * w (jk j) f o : ℝ) : EReal) := by
  entry_read
  pointwise
  simp only [h3', h4', ← EReal.coe_mul, csum]
  rfl

include h4' in
/-- The right attention vectors, one head and neighbour in each column. -/
theorem v29_at (f : Fin 640) (j : Fin 40) :
    (V m c main_v29 : FVec Ideal S640x40 .f32) (ix2 f j)
      = ((ar a (qk (cq f)) (qo (cq f)) * ind (qk (cq f) = jk j) * ind (cs f = js j) : ℝ) : EReal) := by
  entry_read
  pointwise
  refine (mul3 (h4' _ _) (eye _ _ (by omega) (by omega)) (eye _ _ (by omega) (by omega))).trans ?_
  refine congrArg _ (congrArg₂ _ (congrArg₂ _ ?_ (ind_iff ?_)) (ind_iff ?_))
  · unfold ar
    congr 1 <;> ext <;> simp only [qk, qo, cq] <;> omega
  · simp only [Fin.ext_iff, qk, cq, jk]; omega
  · simp only [Fin.ext_iff, cs, js]

/-- The matrix that adds one head's columns. -/
theorem v31_at (j : Fin 40) (k : Fin 4) : (V m c main_v31 : FVec Ideal S40x4 .f32) (ix2 j k) = ((ind (jk j = k) : ℝ) : EReal) := by
  entry_read
  pointwise
  rw [eye _ _ (by omega) (by omega)]
  refine congrArg _ (ind_iff ?_)
  simp only [Fin.ext_iff, jk]

/-- The matrix that spreads a score over its features. -/
theorem v41_at (j : Fin 40) (f : Fin 640) :
    (V m c main_v41 : FVec Ideal S40x640 .f32) (ix2 j f) = ((ind (jk j = qk (cq f)) * ind (js j = cs f) : ℝ) : EReal) := by
  entry_read
  pointwise
  rw [eye _ _ (by omega) (by omega), eye _ _ (by omega) (by omega), ← EReal.coe_mul]
  refine congrArg _ (congrArg₂ _ (ind_iff ?_) (ind_iff ?_))
  · simp only [Fin.ext_iff, qk, cq, jk]; omega
  · simp only [Fin.ext_iff, cs, js]

/-- The matrix that spreads a head's number over its columns. -/
theorem v43_at (k : Fin 4) (q : Fin 64) : (V m c main_v43 : FVec Ideal S4x64 .f32) (ix2 k q) = ((ind (k = qk q) : ℝ) : EReal) := by
  entry_read
  pointwise
  rw [eye _ _ (by omega) (by omega)]
  refine congrArg _ (ind_iff ?_)
  simp only [Fin.ext_iff, qk]

/-- The matrix that adds the neighbours up. -/
theorem v52_at (f : Fin 640) (q : Fin 64) : (V m c main_v52 : FVec Ideal S640x64 .f32) (ix2 f q) = ((ind (cq f = q) : ℝ) : EReal) := by
  entry_read
  pointwise
  rw [eye _ _ (by omega) (by omega)]
  refine congrArg _ (ind_iff ?_)
  simp only [Fin.ext_iff, cq]

include h5 in
/-- The second layer's weights. -/
theorem v53_at (q : Fin 64) (o : Fin 32) : (V m c main_v53 : FVec Ideal S64x32 .f32) (ix2 q o) = ((w2 q o : ℝ) : EReal) := by
  entry_read
  pointwise
  exact h5 _ _

include h6 in
/-- The left half of the second attention vector. -/
theorem v56_at (o : Fin 32) : (V m c main_v56 : FVec Ideal S32x1 .f32) (ix2 o 0) = ((cl a2 o : ℝ) : EReal) := by
  entry_read
  pointwise
  exact h6 _

include h6 in
/-- The right half of the second attention vector. -/
theorem v59_at (o : Fin 32) : (V m c main_v59 : FVec Ideal S32x1 .f32) (ix2 o 0) = ((cr a2 o : ℝ) : EReal) := by
  entry_read
  pointwise
  exact h6 _

/-- The bias. -/
theorem v60_at : (V m c main_v60 : FVec Ideal S1x1 .f32) (ix2 0 0) = (m (c, Proc.devRef .tc main_arg8) : FVec Ideal S1 .f32) (ix1 0) := by
  entry_read
  pointwise

end

end Cert.KernelIdeal.Pure
-- ==== Proof.Value.Blocks.lean ====
module

public import proofs.«01_k».proof.Proof.KernelIdeal.Run
public import proofs.«01_k».proof.Proof.Value.Heads
public import Idealize.ShloMosaic.Lib.Pipeline.ValueKit

@[expose] public section

set_option maxRecDepth 16384

/-!
# The blocks of the windows, read at an index
-/

noncomputable section

open Idealize.ShloMosaic Idealize.ShloMosaic.TcCoe Idealize.SL.Sem

namespace Cert.KernelIdeal.Pure

open Cert.KernelIdeal Cert.KernelIdeal.Gen Cert.Gat

variable (m : (ℓ : Loc nD τ sig) → Buf (Elt Ideal) ℓ) (c : Dev nD)

/-- The block of the nodes' window: the grid's point less one. -/
theorem idx0 : ∀ t : Fin cfg0.N, win0_0.index t = ![t.val - 1, 0] := (by decide +kernel : ∀ t : Fin grid0.N, _)
/-- The block of the neighbours' window. -/
theorem idx1 : ∀ t : Fin cfg0.N, win0_1.index t = ![t.val - 1, 0] := (by decide +kernel : ∀ t : Fin grid0.N, _)
/-- The block of the result's window. -/
theorem idx14 : ∀ t : Fin cfg0.N, win0_14.index t = ![t.val - 1, 0] := (by decide +kernel : ∀ t : Fin grid0.N, _)

/-- A row of the nodes' block. -/
theorem blk0 (t : Fin cfg0.N) (b q : Fin 64) :
    (iblk m c 0 t : FVec Ideal S64x64 .f32) (ix2 b q) = (m (c, Proc.devRef .tc main_arg0) : FVec Ideal S2048x64 .f32) (ix2 ⟨64 * (t.val - 1) + b.val, by have := t.isLt; have : cfg0.N = 33 := rfl; omega⟩ q) := by
  blk_ext [iblk, V, idx0 t]
/-- A row of the neighbours' block. -/
theorem blk1 (t : Fin cfg0.N) (n : Fin 1600) (f : Fin 128) :
    (iblk m c 1 t : FVec Ideal S1600x128 .f32) (ix2 n f) = (m (c, Proc.devRef .tc main_arg1) : FVec Ideal S51200x128 .f32) (ix2 ⟨1600 * (t.val - 1) + n.val, by have := t.isLt; have : cfg0.N = 33 := rfl; omega⟩ f) := by
  blk_ext [iblk, V, idx1 t]

/-- Window 2 holds its whole array. -/
theorem idx2 : ∀ t : Fin cfg0.N, win0_2.index t = ![0, 0] := (by decide +kernel : ∀ t : Fin grid0.N, _)
/-- An element of window 2's block. -/
theorem blk2 (t : Fin cfg0.N) (i : Fin 128) (j : Fin 64) :
    (iblk m c 2 t : FVec Ideal S128x64 .f32) (ix2 i j) = (V m c main_v1 : FVec Ideal S128x64 .f32) (ix2 i j) := by
  blk_ext [iblk, idx2 t]

/-- Window 3 holds its whole array. -/
theorem idx3 : ∀ t : Fin cfg0.N, win0_3.index t = ![0, 0] := (by decide +kernel : ∀ t : Fin grid0.N, _)
/-- An element of window 3's block. -/
theorem blk3 (t : Fin cfg0.N) (i : Fin 128) (j : Fin 40) :
    (iblk m c 3 t : FVec Ideal S128x40 .f32) (ix2 i j) = (V m c main_v19 : FVec Ideal S128x40 .f32) (ix2 i j) := by
  blk_ext [iblk, idx3 t]

/-- Window 4 holds its whole array. -/
theorem idx4 : ∀ t : Fin cfg0.N, win0_4.index t = ![0, 0] := (by decide +kernel : ∀ t : Fin grid0.N, _)
/-- An element of window 4's block. -/
theorem blk4 (t : Fin cfg0.N) (i : Fin 640) (j : Fin 40) :
    (iblk m c 4 t : FVec Ideal S640x40 .f32) (ix2 i j) = (V m c main_v29 : FVec Ideal S640x40 .f32) (ix2 i j) := by
  blk_ext [iblk, idx4 t]

/-- Window 5 holds its whole array. -/
theorem idx5 : ∀ t : Fin cfg0.N, win0_5.index t = ![0, 0] := (by decide +kernel : ∀ t : Fin grid0.N, _)
/-- An element of window 5's block. -/
theorem blk5 (t : Fin cfg0.N) (i : Fin 40) (j : Fin 4) :
    (iblk m c 5 t : FVec Ideal S40x4 .f32) (ix2 i j) = (V m c main_v31 : FVec Ideal S40x4 .f32) (ix2 i j) := by
  blk_ext [iblk, idx5 t]

/-- Window 6 holds its whole array. -/
theorem idx6 : ∀ t : Fin cfg0.N, win0_6.index t = ![0, 0] := (by decide +kernel : ∀ t : Fin grid0.N, _)
/-- An element of window 6's block. -/
theorem blk6 (t : Fin cfg0.N) (i : Fin 40) (j : Fin 640) :
    (iblk m c 6 t : FVec Ideal S40x640 .f32) (ix2 i j) = (V m c main_v41 : FVec Ideal S40x640 .f32) (ix2 i j) := by
  blk_ext [iblk, idx6 t]

/-- Window 7 holds its whole array. -/
theorem idx7 : ∀ t : Fin cfg0.N, win0_7.index t = ![0, 0] := (by decide +kernel : ∀ t : Fin grid0.N, _)
/-- An element of window 7's block. -/
theorem blk7 (t : Fin cfg0.N) (i : Fin 4) (j : Fin 64) :
    (iblk m c 7 t : FVec Ideal S4x64 .f32) (ix2 i j) = (V m c main_v43 : FVec Ideal S4x64 .f32) (ix2 i j) := by
  blk_ext [iblk, idx7 t]

/-- Window 8 holds its whole array. -/
theorem idx8 : ∀ t : Fin cfg0.N, win0_8.index t = ![0, 0] := (by decide +kernel : ∀ t : Fin grid0.N, _)
/-- An element of window 8's block. -/
theorem blk8 (t : Fin cfg0.N) (i : Fin 640) (j : Fin 64) :
    (iblk m c 8 t : FVec Ideal S640x64 .f32) (ix2 i j) = (V m c main_v52 : FVec Ideal S640x64 .f32) (ix2 i j) := by
  blk_ext [iblk, idx8 t]

/-- Window 9 holds its whole array. -/
theorem idx9 : ∀ t : Fin cfg0.N, win0_9.index t = ![0, 0] := (by decide +kernel : ∀ t : Fin grid0.N, _)
/-- An element of window 9's block. -/
theorem blk9 (t : Fin cfg0.N) (i : Fin 64) (j : Fin 32) :
    (iblk m c 9 t : FVec Ideal S64x32 .f32) (ix2 i j) = (V m c main_v53 : FVec Ideal S64x32 .f32) (ix2 i j) := by
  blk_ext [iblk, idx9 t]

/-- Window 10 holds its whole array. -/
theorem idx10 : ∀ t : Fin cfg0.N, win0_10.index t = ![0, 0] := (by decide +kernel : ∀ t : Fin grid0.N, _)
/-- An element of window 10's block. -/
theorem blk10 (t : Fin cfg0.N) (i : Fin 32) (j : Fin 1) :
    (iblk m c 10 t : FVec Ideal S32x1 .f32) (ix2 i j) = (V m c main_v56 : FVec Ideal S32x1 .f32) (ix2 i j) := by
  blk_ext [iblk, idx10 t]

/-- Window 11 holds its whole array. -/
theorem idx11 : ∀ t : Fin cfg0.N, win0_11.index t = ![0, 0] := (by decide +kernel : ∀ t : Fin grid0.N, _)
/-- An element of window 11's block. -/
theorem blk11 (t : Fin cfg0.N) (i : Fin 32) (j : Fin 1) :
    (iblk m c 11 t : FVec Ideal S32x1 .f32) (ix2 i j) = (V m c main_v59 : FVec Ideal S32x1 .f32) (ix2 i j) := by
  blk_ext [iblk, idx11 t]

/-- Window 12 holds its whole array. -/
theorem idx12 : ∀ t : Fin cfg0.N, win0_12.index t = ![0, 0] := (by decide +kernel : ∀ t : Fin grid0.N, _)
/-- An element of window 12's block. -/
theorem blk12 (t : Fin cfg0.N) (i : Fin 32) (j : Fin 1) :
    (iblk m c 12 t : FVec Ideal S32x1 .f32) (ix2 i j) = (V m c main_arg7 : FVec Ideal S32x1 .f32) (ix2 i j) := by
  blk_ext [iblk, idx12 t]

/-- Window 13 holds its whole array. -/
theorem idx13 : ∀ t : Fin cfg0.N, win0_13.index t = ![0, 0] := (by decide +kernel : ∀ t : Fin grid0.N, _)
/-- An element of window 13's block. -/
theorem blk13 (t : Fin cfg0.N) (i : Fin 1) (j : Fin 1) :
    (iblk m c 13 t : FVec Ideal S1x1 .f32) (ix2 i j) = (V m c main_v60 : FVec Ideal S1x1 .f32) (ix2 i j) := by
  blk_ext [iblk, idx13 t]

/-- A row of the block of second-hop neighbours the point computes from. -/
theorem part_at (t : Fin cfg0.N) (s : Fin 10) (n : Fin 1600) (f : Fin 128) :
    Hand.part m c (t.val - 1) s (ix3 0 n f) = (m (c, Proc.devRef .tc main_arg2) : FVec Ideal S51200x10x128 .f32) (ix3 ⟨1600 * (t.val - 1) + n.val, by have := t.isLt; have : cfg0.N = 33 := rfl; omega⟩ s f) := by
  have h := t.isLt
  have h' : cfg0.N = 33 := rfl
  unfold Hand.part
  rw [V_main_arg2]
  refine congrArg (m (c, Proc.devRef .tc main_arg2) : FVec Ideal S51200x10x128 .f32) ?_
  refine congrArg (fun z => ix3 z s f) (Fin.ext ?_)
  show (1600 * (t.val - 1) + n.val) % 51200 = 1600 * (t.val - 1) + n.val
  omega

end Cert.KernelIdeal.Pure
-- ==== Proof.Value.Result.lean ====
module

public import proofs.«01_k».proof.Proof.Value.Layer1
public import proofs.«01_k».proof.Proof.Value.Layer2
public import proofs.«01_k».proof.Proof.Value.Host1
public import proofs.«01_k».proof.Proof.Value.Blocks

@[expose] public section

set_option maxRecDepth 16384

/-!
# The kernel's result array

Every block written back holds, row by row, the second layer's output of the block's nodes through the final logistic;
the blocks written back at the points after the first cover the array.
-/

noncomputable section

open Idealize.ShloMosaic Idealize.ShloMosaic.TcCoe Idealize.ShloMosaic.Pipeline Idealize.SL.Sem

namespace Cert.KernelIdeal.Pure

open Cert.KernelIdeal Cert.KernelIdeal.Gen Cert.Gat

variable (m : (ℓ : Loc nD τ sig) → Buf (Elt Ideal) ℓ) (c : Dev nD)
variable (x0 : Fin 2048 → Fin 64 → ℝ) (x1 : Fin 51200 → Fin 128 → ℝ) (x2 : Fin 51200 → Fin 10 → Fin 128 → ℝ)
  (w : Fin 4 → Fin 128 → Fin 16 → ℝ) (a : Fin 4 → Fin 32 → ℝ) (w2 : Fin 64 → Fin 32 → ℝ) (a2 : Fin 64 → ℝ)
  (h0 : ∀ i q, (m (c, Proc.devRef .tc main_arg0) : FVec Ideal S2048x64 .f32) (ix2 i q) = ((x0 i q : ℝ) : EReal))
  (h1' : ∀ n f, (m (c, Proc.devRef .tc main_arg1) : FVec Ideal S51200x128 .f32) (ix2 n f) = ((x1 n f : ℝ) : EReal))
  (h2' : ∀ n s f, (m (c, Proc.devRef .tc main_arg2) : FVec Ideal S51200x10x128 .f32) (ix3 n s f) = ((x2 n s f : ℝ) : EReal))
  (h3' : ∀ k f o, (m (c, Proc.devRef .tc main_arg3) : FVec Ideal S4x128x16 .f32) (ix3 k f o) = ((w k f o : ℝ) : EReal))
  (h4' : ∀ k o, (m (c, Proc.devRef .tc main_arg4) : FVec Ideal S4x32 .f32) (ix2 k o) = ((a k o : ℝ) : EReal))
  (h5 : ∀ q o, (m (c, Proc.devRef .tc main_arg5) : FVec Ideal S1x64x32 .f32) (ix3 0 q o) = ((w2 q o : ℝ) : EReal))
  (h6 : ∀ o, (m (c, Proc.devRef .tc main_arg6) : FVec Ideal S1x64 .f32) (ix2 0 o) = ((a2 o : ℝ) : EReal))
  (hle1 : ∀ k n s, sc1 (w k) (al a k) (ar a k) (x1 n) (x2 n s) ≤ 60)
  (hle2 : ∀ i j, sc2 w2 (cl a2) (cr a2) (x0 i) (grow x1 x2 w a (nrow i j)) ≤ 60)

/-- The number of one node. -/
def val (i : Fin 2048) : EReal :=
  Cert.Gat.fin (out2 w2 (cl a2) (cr a2) (x0 i) fun j => grow x1 x2 w a (nrow i j))
    (fun o => (m (c, Proc.devRef .tc main_arg7) : FVec Ideal S32x1 .f32) (ix2 o 0)) ((m (c, Proc.devRef .tc main_arg8) : FVec Ideal S1 .f32) (ix1 0))

include h0 h1' h2' h3' h4' h5 h6 hle1 hle2 in
/-- The block a point leaves in the result's buffer, row by row. -/
theorem outAt_at (t : Fin cfg0.N) (b : Fin 64) :
    Hand.outAt m c t (ix2 b 0) = val m c x0 x1 x2 w a w2 a2 ⟨64 * (t.val - 1) + b.val, by have := t.isLt; have : cfg0.N = 33 := rfl; omega⟩ := by
  have ht : t.val < 33 := t.isLt
  unfold Hand.outAt Hand.outBlk
  have row : ∀ j : Fin 25, (⟨1600 * (t.val - 1) + (rmk b j).val, by have := (rmk b j).isLt; omega⟩ : Fin 51200) = nrow ⟨64 * (t.val - 1) + b.val, by omega⟩ j := fun j => by
    ext; simp only [nrow, rmk]; omega
  refine (out_at _ _ _ _ _ _ _ b (fun n q => grow x1 x2 w a ⟨1600 * (t.val - 1) + n.val, by omega⟩ q) (x0 ⟨64 * (t.val - 1) + b.val, by omega⟩) w2 (cl a2) (cr a2)
    (fun n q => ?_) (fun q => (blk0 m c t b q).trans (h0 _ _)) (fun q o => (blk9 m c t q o).trans (v53_at m c w2 h5 q o))
    (fun o => (blk10 m c t o 0).trans (v56_at m c a2 h6 o)) (fun o => (blk11 m c t o 0).trans (v59_at m c a2 h6 o)) (fun j => ?_)).trans ?_
  · exact g1Blk_at _ _ _ _ _ _ _ _ _ n q (x1 ⟨1600 * (t.val - 1) + n.val, by omega⟩) (x2 ⟨1600 * (t.val - 1) + n.val, by omega⟩) w (al a) (ar a)
      (fun s f => (part_at m c t s n f).trans (h2' _ _ _)) (fun f => (blk1 m c t n f).trans (h1' _ _))
      (fun f q => (blk2 m c t f q).trans (v1_at m c w h3' f q)) (fun f j => (blk3 m c t f j).trans (v19_at m c w a h3' h4' f j))
      (fun f j => (blk4 m c t f j).trans (v29_at m c a h4' f j)) (fun j k => (blk5 m c t j k).trans (v31_at m c j k))
      (fun j f => (blk6 m c t j f).trans (v41_at m c j f)) (fun k q => (blk7 m c t k q).trans (v43_at m c k q))
      (fun f q => (blk8 m c t f q).trans (v52_at m c f q)) (fun k s => hle1 k _ s)
  · show sc2 w2 (cl a2) (cr a2) _ (grow x1 x2 w a ⟨1600 * (t.val - 1) + (rmk b j).val, _⟩) ≤ 60
    rw [row j]
    exact hle2 _ _
  · unfold val
    refine congr (congrArg₂ _ (congrArg _ (funext fun j => ?_)) (funext fun o => ?_)) ?_
    · show grow x1 x2 w a ⟨1600 * (t.val - 1) + (rmk b j).val, _⟩ = _
      rw [row j]
    · exact (blk12 m c t o 0).trans (by rw [V_main_arg7])
    · exact (blk13 m c t 0 0).trans (v60_at m c)

/-- The result's window is not written back at the first point. -/
theorem flush14 : ∀ t : Fin cfg0.N, (cfg0.win 14).flush t = true → t.val ≠ 0 := by decide +kernel

include h0 h1' h2' h3' h4' h5 h6 hle1 hle2 in
/-- The result array after the run. -/
theorem arr (after : (w : Fin cfg0.W) → (t : Fin cfg0.N) → (cfg0.win w).block.Idx → Elt Ideal (cfg0.win w).elt)
    (h : ∀ t, (cfg0.win 14).flush t = true → t.val ≠ 0 → after 14 t = Hand.outAt m c t) :
    (((Hand.dats m 0 c).toRRel Hand.fgt (Hand.Rl m c)).withAfter after).arrAt 14 cfg0.N = ((fun y => val m c x0 x1 x2 w a w2 a2 (y 0)) : FVec Ideal S2048x1 .f32) := by
  refine Dat.arrAt_eq_of_covers _ 14 _ (by decide +kernel) fun t hf y => ?_
  blk_simp
  have e := h t hf (flush14 t hf)
  have hy : (y : S64x1.Idx) = ix2 (y 0) 0 := by
    funext i
    match i with
    | ⟨0, _⟩ => rfl
    | ⟨1, _⟩ => exact Subsingleton.elim (α := Fin 1) _ _
  have hv := outAt_at m c x0 x1 x2 w a w2 a2 h0 h1' h2' h3' h4' h5 h6 hle1 hle2 t (y 0)
  refine (congrFun e y).trans (((congrArg (Hand.outAt m c t) hy).trans hv).trans (congrArg (val m c x0 x1 x2 w a w2 a2) (Fin.ext ?_)))
  blk_simp [idx14 t]
  exact congrArg (· + (y 0).val) (Nat.mul_comm _ _)

end Cert.KernelIdeal.Pure
-- ==== Proof.Value.Ref.lean ====
module

public import proofs.«01_k».proof.Proof.Gen.ReferenceIdeal.Run
public import proofs.«01_k».proof.Proof.Value.Heads

@[expose] public section

set_option maxRecDepth 16384

/-!
# The reference, read at an index

The reference's named values over finite arguments are real numbers: the two layers row by row.
-/

noncomputable section

open Idealize.ShloMosaic Idealize.ShloMosaic.TcCoe Idealize.SL.Sem

namespace Cert.ReferenceIdeal.Pure

open Cert.ReferenceIdeal Cert.ReferenceIdeal.Value Cert.Gat

/-- The activation of the first layer's scores. -/
def leaky1 (x : FVec Ideal S4x51200x10 .f32) : FVec Ideal S4x51200x10 .f32 :=
  select (cmpf .oge x (broadcastInDim S4x51200x10 ![] Gen.bcast_S_S4x51200x10 (constant S_ .f32 0x00000000#32))) x (mulf (broadcastInDim S4x51200x10 ![] Gen.bcast_S_S4x51200x10 (id (constant S_ .f32 0x3E4CCCCD#32))) x)

/-- The exponentials of the first layer's scores less their largest. -/
def shifted1 (x : FVec Ideal S4x51200x10 .f32) : FVec Ideal S4x51200x10 .f32 :=
  Host.exp (subf x (broadcastInDim S4x51200x10 ![0, 1, 2] Gen.bcast_S4x51200x1_S4x51200x10_0_1_2 (broadcastInDim S4x51200x1 ![0, 1] Gen.bcast_S4x51200_S4x51200x1_0_1 (maximumf (broadcastInDim S4x51200 ![] Gen.bcast_S_S4x51200 (constant S_ .f32 0xFF800000#32)) (Host.reduce FloatOps.maximumf x (constant S_ .f32 0xFF800000#32) Gen.reducesTo_S4x51200x10_S4x51200_d2 Gen.h_S_)))))

/-- The activation of the second layer's scores. -/
def leaky2 (x : FVec Ideal S1x2048x25 .f32) : FVec Ideal S1x2048x25 .f32 :=
  select (cmpf .oge x (broadcastInDim S1x2048x25 ![] Gen.bcast_S_S1x2048x25 (constant S_ .f32 0x00000000#32))) x (mulf (broadcastInDim S1x2048x25 ![] Gen.bcast_S_S1x2048x25 (id (constant S_ .f32 0x3E4CCCCD#32))) x)

/-- The exponentials of the second layer's scores less their largest. -/
def shifted2 (x : FVec Ideal S1x2048x25 .f32) : FVec Ideal S1x2048x25 .f32 :=
  Host.exp (subf x (broadcastInDim S1x2048x25 ![0, 1, 2] Gen.bcast_S1x2048x1_S1x2048x25_0_1_2 (broadcastInDim S1x2048x1 ![0, 1] Gen.bcast_S1x2048_S1x2048x1_0_1 (maximumf (broadcastInDim S1x2048 ![] Gen.bcast_S_S1x2048 (constant S_ .f32 0xFF800000#32)) (Host.reduce FloatOps.maximumf x (constant S_ .f32 0xFF800000#32) Gen.reducesTo_S1x2048x25_S1x2048_d2 Gen.h_S_)))))

/-- The activation at an index. -/
theorem leaky1_at (x : FVec Ideal S4x51200x10 .f32) (k : Fin 4) (n : Fin 51200) (s : Fin 10) (r : ℝ) (h : x (ix3 k n s) = (r : EReal)) :
    leaky1 x (ix3 k n s) = ((lk r : ℝ) : EReal) := by
  pointwise [leaky1, h]
  simp only [id]
  exact (congrArg (fun z => if (0 : EReal) ≤ (r : EReal) then (r : EReal) else z * (r : EReal)) ofBits_slope).trans (clk r)

/-- The activation at an index. -/
theorem leaky2_at (x : FVec Ideal S1x2048x25 .f32) (i : Fin 2048) (j : Fin 25) (r : ℝ) (h : x (ix3 0 i j) = (r : EReal)) :
    leaky2 x (ix3 0 i j) = ((lk r : ℝ) : EReal) := by
  pointwise [leaky2, h]
  simp only [id]
  exact (congrArg (fun z => if (0 : EReal) ≤ (r : EReal) then (r : EReal) else z * (r : EReal)) ofBits_slope).trans (clk r)

/-- Along one row the exponentials are of the scores less one number. -/
theorem shifted1_at (x : FVec Ideal S4x51200x10 .f32) (k : Fin 4) (n : Fin 51200) (f : Fin 10 → ℝ) (h : ∀ s, x (ix3 k n s) = ((f s : ℝ) : EReal)) :
    ∃ M : ℝ, ∀ s, shifted1 x (ix3 k n s) = ((Real.exp (f s - M) : ℝ) : EReal) := by
  obtain ⟨M, hM⟩ := foldmax f
  refine ⟨M, fun s => ?_⟩
  pointwise [shifted1]
  simp only [h, ofBits_ninf, hM]
  rw [max_eq_right bot_le, ← EReal.coe_sub, Ideal.exp_coe]

/-- Along one row the exponentials are of the scores less one number. -/
theorem shifted2_at (x : FVec Ideal S1x2048x25 .f32) (i : Fin 2048) (f : Fin 25 → ℝ) (h : ∀ j, x (ix3 0 i j) = ((f j : ℝ) : EReal)) :
    ∃ M : ℝ, ∀ j, shifted2 x (ix3 0 i j) = ((Real.exp (f j - M) : ℝ) : EReal) := by
  obtain ⟨M, hM⟩ := foldmax f
  refine ⟨M, fun s => ?_⟩
  pointwise [shifted2]
  simp only [h, ofBits_ninf, hM]
  rw [max_eq_right bot_le, ← EReal.coe_sub, Ideal.exp_coe]

variable (V0 : Valuation τ sig (Elt Ideal))

theorem v11_eq : res_main_v11 (F := Ideal) V0 = leaky1 (res_main_v10 V0) := rfl
theorem v18_eq : res_main_v18 (F := Ideal) V0 = shifted1 (res_main_v11 V0) := rfl
theorem v39_eq : res_main_v39 (F := Ideal) V0 = leaky2 (res_main_v38 V0) := rfl
theorem v46_eq : res_main_v46 (F := Ideal) V0 = shifted2 (res_main_v39 V0) := rfl

section
variable (x0 : Fin 2048 → Fin 64 → ℝ) (x1 : Fin 51200 → Fin 128 → ℝ) (x2 : Fin 51200 → Fin 10 → Fin 128 → ℝ)
  (w : Fin 4 → Fin 128 → Fin 16 → ℝ) (a : Fin 4 → Fin 32 → ℝ) (w2 : Fin 64 → Fin 32 → ℝ) (a2 : Fin 64 → ℝ)
  (h0 : ∀ i q, (V0 (Proc.devRef .tc main_arg0) : FVec Ideal S2048x64 .f32) (ix2 i q) = ((x0 i q : ℝ) : EReal))
  (h1' : ∀ n f, (V0 (Proc.devRef .tc main_arg1) : FVec Ideal S51200x128 .f32) (ix2 n f) = ((x1 n f : ℝ) : EReal))
  (h2' : ∀ n s f, (V0 (Proc.devRef .tc main_arg2) : FVec Ideal S51200x10x128 .f32) (ix3 n s f) = ((x2 n s f : ℝ) : EReal))
  (h3' : ∀ k f o, (V0 (Proc.devRef .tc main_arg3) : FVec Ideal S4x128x16 .f32) (ix3 k f o) = ((w k f o : ℝ) : EReal))
  (h4' : ∀ k o, (V0 (Proc.devRef .tc main_arg4) : FVec Ideal S4x32 .f32) (ix2 k o) = ((a k o : ℝ) : EReal))
  (h5 : ∀ q o, (V0 (Proc.devRef .tc main_arg5) : FVec Ideal S1x64x32 .f32) (ix3 0 q o) = ((w2 q o : ℝ) : EReal))
  (h6 : ∀ o, (V0 (Proc.devRef .tc main_arg6) : FVec Ideal S1x64 .f32) (ix2 0 o) = ((a2 o : ℝ) : EReal))

include h2' h3' in
/-- The neighbours' features. -/
theorem v3_at (k : Fin 4) (n : Fin 51200) (s : Fin 10) (o : Fin 16) :
    res_main_v3 (F := Ideal) V0 (ix4 k n s o) = ((h1 (w k) (x2 n s) o : ℝ) : EReal) := by
  pointwise [res_main_v3]
  simp only [h2', h3', ← EReal.coe_mul, csum]
  refine congrArg _ (Finset.sum_congr rfl fun f _ => mul_comm _ _)

include h1' h2' h3' h4' in
/-- The first layer's scores. -/
theorem v10_at (k : Fin 4) (n : Fin 51200) (s : Fin 10) :
    res_main_v10 (F := Ideal) V0 (ix3 k n s) = ((sc1 (w k) (al a k) (ar a k) (x1 n) (x2 n s) : ℝ) : EReal) := by
  pointwise [res_main_v10]
  simp only [v3_at V0 x2 w h2' h3', h1', h3', h4', ← EReal.coe_mul, csum, ← EReal.coe_add]
  refine congrArg _ (congrArg₂ _ (Finset.sum_congr rfl fun o _ => congrArg₂ _ ?_ rfl) rfl)
  exact Finset.sum_congr rfl fun f _ => mul_comm _ _

include h1' h2' h3' h4' in
/-- The first layer's mean, before its activation. -/
theorem v25_at (n : Fin 51200) (q : Fin 64) :
    res_main_v25 (F := Ideal) V0 (ix2 n q)
      = ((soft (fun s => sc1 (w (qk q)) (al a (qk q)) (ar a (qk q)) (x1 n) (x2 n s)) (fun s => h1 (w (qk q)) (x2 n s) (qo q)) : ℝ) : EReal) := by
  obtain ⟨M, hM⟩ := shifted1_at (res_main_v11 V0) (qk q) n (fun s => lk (sc1 (w (qk q)) (al a (qk q)) (ar a (qk q)) (x1 n) (x2 n s)))
    (fun s => by rw [v11_eq]; exact leaky1_at _ _ _ _ _ (v10_at V0 x1 x2 w a h1' h2' h3' h4' _ _ _))
  rw [← v18_eq] at hM
  pointwise [res_main_v25]
  have e : ∀ s : Fin 10, res_main_v18 (F := Ideal) V0 (ix3 ⟨q.val / 16, by omega⟩ n s) = ((Real.exp (lk (sc1 (w (qk q)) (al a (qk q)) (ar a (qk q)) (x1 n) (x2 n s)) - M) : ℝ) : EReal) := hM
  have e' : ∀ s : Fin 10, res_main_v3 (F := Ideal) V0 (ix4 ⟨q.val / 16, by omega⟩ n s ⟨q.val % 16, by omega⟩) = ((h1 (w (qk q)) (x2 n s) (qo q) : ℝ) : EReal) :=
    fun s => v3_at V0 x2 w h2' h3' (qk q) n s (qo q)
  simp only [e, e', csum]
  simp only [cdiv _ _ (den_pos (fun s => lk (sc1 (w (qk q)) (al a (qk q)) (ar a (qk q)) (x1 n) (x2 n s)) - M)).ne', ← EReal.coe_mul, csum]
  rw [soft_shift]

include h1' h2' h3' h4' h5 in
/-- The second layer's features. -/
theorem v31_at (i : Fin 2048) (j : Fin 25) (o : Fin 32) :
    res_main_v31 (F := Ideal) V0 (ix4 0 i j o) = ((h2 w2 (grow x1 x2 w a (nrow i j)) o : ℝ) : EReal) := by
  have e : ∀ q : Fin 64, (if (0 : EReal) < res_main_v25 (F := Ideal) V0 (ix2 ⟨i.val * 25 + j.val, by omega⟩ q) then res_main_v25 (F := Ideal) V0 (ix2 ⟨i.val * 25 + j.val, by omega⟩ q)
      else Ideal.exp (if (0 : EReal) < res_main_v25 (F := Ideal) V0 (ix2 ⟨i.val * 25 + j.val, by omega⟩ q) then id (constant (F := Ideal) S_ FTy.f32 0#32) ix0
        else res_main_v25 (F := Ideal) V0 (ix2 ⟨i.val * 25 + j.val, by omega⟩ q)) - 1) = ((grow x1 x2 w a (nrow i j) q : ℝ) : EReal) := by
    intro q
    have e0 : (id (constant (F := Ideal) S_ FTy.f32 0#32) ix0 : EReal) = 0 := by
      simp only [id]; pointwise
    have e25 := v25_at V0 x1 x2 w a h1' h2' h3' h4' (nrow i j) q
    simp only [nrow] at e25
    rw [e25, e0, celu']
    rfl
  pointwise [res_main_v31]
  simp only [e, h5, ← EReal.coe_mul, csum]
  refine congrArg _ (Finset.sum_congr rfl fun q _ => mul_comm _ _)

include h0 h1' h2' h3' h4' h5 h6 in
/-- The second layer's scores. -/
theorem v38_at (i : Fin 2048) (j : Fin 25) :
    res_main_v38 (F := Ideal) V0 (ix3 0 i j) = ((sc2 w2 (cl a2) (cr a2) (x0 i) (grow x1 x2 w a (nrow i j)) : ℝ) : EReal) := by
  pointwise [res_main_v38]
  simp only [v31_at V0 x1 x2 w a w2 h1' h2' h3' h4' h5, h0, h5, h6, ← EReal.coe_mul, csum, ← EReal.coe_add]
  refine congrArg _ (congrArg₂ _ (Finset.sum_congr rfl fun o _ => congrArg₂ _ ?_ rfl) rfl)
  exact Finset.sum_congr rfl fun f _ => mul_comm _ _

end

end Cert.ReferenceIdeal.Pure
-- ==== Proof.Value.RefOut.lean ====
module

public import proofs.«01_k».proof.Proof.Value.Ref

@[expose] public section

set_option maxRecDepth 16384

/-!
# The reference's result
-/

noncomputable section

open Idealize.ShloMosaic Idealize.ShloMosaic.TcCoe Idealize.SL.Sem

namespace Cert.ReferenceIdeal.Pure

open Cert.ReferenceIdeal Cert.ReferenceIdeal.Value Cert.Gat

/-- The reference's result, from the second layer's exponentials and features. -/
def refOut (p : FVec Ideal S1x2048x25 .f32) (hn : FVec Ideal S1x2048x25x32 .f32) (wl : FVec Ideal S32x1 .f32) (bl : FVec Ideal S1 .f32) : FVec Ideal S2048x1 .f32 :=
  Host.divf (broadcastInDim S2048x1 ![] Gen.bcast_S_S2048x1 (constant S_ .f32 0x3F800000#32)) (addf (broadcastInDim S2048x1 ![] Gen.bcast_S_S2048x1 (constant S_ .f32 0x3F800000#32)) (Host.exp (Host.negf (addf (Host.dotGeneral dot_S2048x32_S32x1_S2048x1_1_0_0_1_n_n none (Host.divf (Host.reduceAdd (Host.dotGeneral dot_S1x2048x25_S1x2048x25x32_S1x2048x32_2_2_n_3_01_01 none (Host.divf p (broadcastInDim S1x2048x25 ![0, 1, 2] Gen.bcast_S1x2048x1_S1x2048x25_0_1_2 (broadcastInDim S1x2048x1 ![0, 1] Gen.bcast_S1x2048_S1x2048x1_0_1 (Host.reduceAdd p (constant S_ .f32 0x00000000#32) Gen.reducesTo_S1x2048x25_S1x2048_d2 Gen.h_S_)))) hn) (constant S_ .f32 0x00000000#32) Gen.reducesTo_S1x2048x32_S2048x32_d0 Gen.h_S_) (broadcastInDim S2048x32 ![] Gen.bcast_S_S2048x32 (constant S_ .f32 0x3F800000#32))) wl) (broadcastInDim S2048x1 ![0, 1] Gen.bcast_S1x1_S2048x1_0_1 (broadcastInDim S1x1 ![1] Gen.bcast_S1_S1x1_1 bl))))))

/-- The result at a node. -/
theorem refOut_at (p : FVec Ideal S1x2048x25 .f32) (hn : FVec Ideal S1x2048x25x32 .f32) (wl : FVec Ideal S32x1 .f32) (bl : FVec Ideal S1 .f32) (i : Fin 2048) :
    refOut p hn wl bl (ix2 i 0)
      = Ideal.div 1 (1 + Ideal.exp (-((∑ o : Fin 32, Ideal.div (∑ j : Fin 25, Ideal.div (p (ix3 0 i j)) (∑ l : Fin 25, p (ix3 0 i l)) * hn (ix4 0 i j o)) 1 * wl (ix2 o 0)) + bl (ix1 0)))) := by
  pointwise [refOut]
  simp only [Fin.sum_univ_one]

variable (V0 : Valuation τ sig (Elt Ideal))

section
variable (x0 : Fin 2048 → Fin 64 → ℝ) (x1 : Fin 51200 → Fin 128 → ℝ) (x2 : Fin 51200 → Fin 10 → Fin 128 → ℝ)
  (w : Fin 4 → Fin 128 → Fin 16 → ℝ) (a : Fin 4 → Fin 32 → ℝ) (w2 : Fin 64 → Fin 32 → ℝ) (a2 : Fin 64 → ℝ)
  (h0 : ∀ i q, (V0 (Proc.devRef .tc main_arg0) : FVec Ideal S2048x64 .f32) (ix2 i q) = ((x0 i q : ℝ) : EReal))
  (h1' : ∀ n f, (V0 (Proc.devRef .tc main_arg1) : FVec Ideal S51200x128 .f32) (ix2 n f) = ((x1 n f : ℝ) : EReal))
  (h2' : ∀ n s f, (V0 (Proc.devRef .tc main_arg2) : FVec Ideal S51200x10x128 .f32) (ix3 n s f) = ((x2 n s f : ℝ) : EReal))
  (h3' : ∀ k f o, (V0 (Proc.devRef .tc main_arg3) : FVec Ideal S4x128x16 .f32) (ix3 k f o) = ((w k f o : ℝ) : EReal))
  (h4' : ∀ k o, (V0 (Proc.devRef .tc main_arg4) : FVec Ideal S4x32 .f32) (ix2 k o) = ((a k o : ℝ) : EReal))
  (h5 : ∀ q o, (V0 (Proc.devRef .tc main_arg5) : FVec Ideal S1x64x32 .f32) (ix3 0 q o) = ((w2 q o : ℝ) : EReal))
  (h6 : ∀ o, (V0 (Proc.devRef .tc main_arg6) : FVec Ideal S1x64 .f32) (ix2 0 o) = ((a2 o : ℝ) : EReal))

include h0 h1' h2' h3' h4' h5 h6 in
/-- The reference's result at a node is the second layer's output through the final logistic. -/
theorem result_at (i : Fin 2048) :
    refOut (res_main_v46 V0) (res_main_v31 V0) (V0 (Proc.devRef .tc main_arg7)) (V0 (Proc.devRef .tc main_arg8)) (ix2 i 0)
      = Cert.Gat.fin (out2 w2 (cl a2) (cr a2) (x0 i) fun j => grow x1 x2 w a (nrow i j))
          (fun o => (V0 (Proc.devRef .tc main_arg7) : FVec Ideal S32x1 .f32) (ix2 o 0)) ((V0 (Proc.devRef .tc main_arg8) : FVec Ideal S1 .f32) (ix1 0)) := by
  obtain ⟨M, hM⟩ := shifted2_at (res_main_v39 V0) i (fun j => lk (sc2 w2 (cl a2) (cr a2) (x0 i) (grow x1 x2 w a (nrow i j))))
    (fun j => by rw [v39_eq]; exact leaky2_at _ _ _ _ (v38_at V0 x0 x1 x2 w a w2 a2 h0 h1' h2' h3' h4' h5 h6 _ _))
  rw [← v46_eq] at hM
  rw [refOut_at]
  simp only [hM, v31_at V0 x1 x2 w a w2 h1' h2' h3' h4' h5, csum]
  simp only [cdiv _ _ (den_pos (fun j => lk (sc2 w2 (cl a2) (cr a2) (x0 i) (grow x1 x2 w a (nrow i j))) - M)).ne', ← EReal.coe_mul, csum]
  simp only [soft_shift (fun j => sc2 w2 (cl a2) (cr a2) (x0 i) (grow x1 x2 w a (nrow i j)))]
  simp only [← EReal.coe_one, cdiv _ _ one_ne_zero, div_one]
  rfl

end

end Cert.ReferenceIdeal.Pure
-- ==== Proof.lean ====
/- The claims, from the kernel's run at both float instances and the reference's. -/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Value.Tame
public import proofs.«01_k».proof.Proof.Value.Result
public import proofs.«01_k».proof.Proof.Value.RefOut

@[expose] public section

set_option maxRecDepth 16384

noncomputable section

namespace Cert.Proof

open Idealize.ShloMosaic Idealize.SL.Sem

/-- The kernel runs, leaves its arguments, and leaves every counter at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.Hand.run_post m g)

/-- The same at exact arithmetic. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run_post m g)

/-- The reference runs and leaves its arguments; it has no counter. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- Every index of the result is a node's. -/
theorem node_eta (y : Cert.ReferenceIdeal.S2048x1.Idx) : y = ix2 (y 0) 0 := by
  funext i
  match i with
  | ⟨0, _⟩ => rfl
  | ⟨1, _⟩ => exact Subsingleton.elim (α := Fin 1) _ _

/-- From equal arguments that satisfy the precondition both programs run, and their results are equal: each node's is the
    second layer's output through the final logistic. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.facts) := by
  intro m g m' g' hpre hargs
  have hr := fun c => Cert.Pre_tame.reads _ _ _ _ _ _ _ _ _ (hpre c)
  choose x0 x1 x2 w a w2 a2 h0 h1 h2 h3 h4 h5 h6 hle1 hle2 using hr
  refine ⟨fun c => fun y => Cert.KernelIdeal.Pure.val m c (x0 c) (x1 c) (x2 c) (w c) (a c) (w2 c) (a2 c) (y 0), ?_, ?_⟩
  · refine (θ_run Cert.KernelIdeal.defs _ _).mono (fun r h c => ?_) (Cert.KernelIdeal.Hand.run_post m g)
    obtain ⟨⟨after, ha, hv⟩, rest⟩ := h.1 c
    exact ⟨hv.trans (Cert.KernelIdeal.Pure.arr m c _ _ _ _ _ _ _ (h0 c) (h1 c) (h2 c) (h3 c) (h4 c) (h5 c) (h6 c) (hle1 c) (hle2 c) after ha), rest⟩
  · refine (θ_run Cert.ReferenceIdeal.defs _ _).mono (fun r h c => ?_) (Cert.ReferenceIdeal.Value.run m' g')
    obtain ⟨hv, rest⟩ := h c
    obtain ⟨e0, e1, e2, e3, e4, e5, e6, e7, e8⟩ := hargs c
    refine ⟨hv.trans (funext fun y => ?_), rest⟩
    rw [node_eta y]
    refine (Cert.ReferenceIdeal.Pure.result_at (StableHlo.launchContents m' c) (x0 c) (x1 c) (x2 c) (w c) (a c) (w2 c) (a2 c)
      (fun _ _ => (congrFun e0 _).trans (h0 c _ _)) (fun _ _ => (congrFun e1 _).trans (h1 c _ _)) (fun _ _ _ => (congrFun e2 _).trans (h2 c _ _ _))
      (fun _ _ _ => (congrFun e3 _).trans (h3 c _ _ _)) (fun _ _ => (congrFun e4 _).trans (h4 c _ _)) (fun _ _ => (congrFun e5 _).trans (h5 c _ _))
      (fun _ => (congrFun e6 _).trans (h6 c _)) (y 0)).trans ?_
    exact congr (congrArg _ (funext fun o => congrFun e7 _)) (congrFun e8 _)

theorem claim : Cert.Claim := ⟨Cert.Kernel.Gen.facts, Cert.KernelIdeal.Gen.facts, Cert.ReferenceIdeal.Gen.facts, Cert.Pre_tame.facts,
  frame_kernel, frame_ideal, fun m g _ => frame_ideal m g trivial, frame_reference, fun m g _ => frame_reference m g trivial, trivial, algebraic⟩

end Cert.Proof

end
